-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![32, 128, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![32, 128, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_c_0 : IVec S_ 1 := constantI S_ 1 1#1
  let main_v4 : IVec S_ 1 := andi main_c_0 main_v3
  let main_v5 : FVec F S512x512 .f32 := Host.absf main_arg1
  let main_cst_1 : FVec F S_ .f32 := constant S_ .f32 0x7F800000#32
  let main_v6 : FVec F S512x512 .f32 := broadcastInDim S512x512 ![] bcast_S_S512x512 main_cst_1
  let main_v7 : IVec S512x512 1 := cmpf .olt main_v5 main_v6
  let main_c_2 : IVec S_ 1 := constantI S_ 1 1#1
  let main_v8 : IVec S_ 1 := (fun x v => Host.reduce IntOp.andi x v reducesTo_S512x512_S_d0_1 h_S_) main_v7 main_c_2
  let main_v9 : IVec S_ 1 := andi main_v4 main_v8
  let main_v10 : FVec F S512x512 .f32 := Host.absf main_arg3
  let main_cst_3 : FVec F S_ .f32 := constant S_ .f32 0x7F800000#32
  let main_v11 : FVec F S512x512 .f32 := broadcastInDim S512x512 ![] bcast_S_S512x512 main_cst_3
  let main_v12 : IVec S512x512 1 := cmpf .olt main_v10 main_v11
  let main_c_4 : IVec S_ 1 := constantI S_ 1 1#1
  let main_v13 : IVec S_ 1 := (fun x v => Host.reduce IntOp.andi x v reducesTo_S512x512_S_d0_1 h_S_) main_v12 main_c_4
  let main_v14 : IVec S_ 1 := andi main_v9 main_v13
  main_v14
-- ==== Pre_finite_ReferenceIdeal.lean ====
abbrev S32x128x512 : Shape := ⟨3, ![32, 128, 512]⟩
abbrev S512x8192 : Shape := ⟨2, ![512, 8192]⟩
abbrev S8192x512 : Shape := ⟨2, ![8192, 512]⟩
abbrev S_ : Shape := ⟨0, ![]⟩

class Facts : Prop where
  bcast_S_S32x128x512 : S_.BroadcastsInDim S32x128x512 (![] : Fin 0 → Fin S32x128x512.rank)
  reducesTo_S32x128x512_S_d0_1_2 : S32x128x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S32x128x512 .f32) (main_arg1 : FVec F S512x8192 .f32) (main_arg2 : FVec F S8192x512 .f32) (main_arg3 : FVec F S512x8192 .f32) (main_arg4 : FVec F S512x8192 .f32) : IVec S_ 1 :=
  let main_v0 : FVec F S32x128x512 .f32 := Host.absf main_arg0
  let main_cst : FVec F S_ .f32 := constant S_ .f32 0x7F800000#32
  let main_v1 : FVec F S32x128x512 .f32 := broadcastInDim S32x128x512 ![] bcast_S_S32x128x512 main_cst
  let main_v2 : IVec S32x128x512 1 := cmpf .olt main_v0 main_v1
  let main_c : IVec S_ 1 := constantI S_ 1 1#1
  let main_v3 : IVec S_ 1 := (fun x v => Host.reduce IntOp.andi x v reducesTo_S32x128x512_S_d0_1_2 h_S_) main_v2 main_c
  let main_c_0 : IVec S_ 1 := constantI S_ 1 1#1
  let main_v4 : IVec S_ 1 := andi main_c_0 main_v3
  let main_v5 : FVec F S512x8192 .f32 := Host.absf main_arg1
  let main_cst_1 : FVec F S_ .f32 := constant S_ .f32 0x7F800000#32
  let main_v6 : FVec F S512x8192 .f32 := broadcastInDim S512x8192 ![] bcast_S_S512x8192 main_cst_1
  let main_v7 : IVec S512x8192 1 := cmpf .olt main_v5 main_v6
  let main_c_2 : IVec S_ 1 := constantI S_ 1 1#1
  let main_v8 : IVec S_ 1 := (fun x v => Host.reduce IntOp.andi x v reducesTo_S512x8192_S_d0_1 h_S_) main_v7 main_c_2
  let main_v9 : IVec S_ 1 := andi main_v4 main_v8
  let main_v10 : FVec F S512x8192 .f32 := Host.absf main_arg3
  let main_cst_3 : FVec F S_ .f32 := constant S_ .f32 0x7F800000#32
  let main_v11 : FVec F S512x8192 .f32 := broadcastInDim S512x8192 ![] bcast_S_S512x8192 main_cst_3
  let main_v12 : IVec S512x8192 1 := cmpf .olt main_v10 main_v11
  let main_c_4 : IVec S_ 1 := constantI S_ 1 1#1
  let main_v13 : IVec S_ 1 := (fun x v => Host.reduce IntOp.andi x v reducesTo_S512x8192_S_d0_1 h_S_) main_v12 main_c_4
  let main_v14 : IVec S_ 1 := andi main_v9 main_v13
  main_v14
-- ==== Kernel.lean ====
abbrev S2x128x512 : Shape := ⟨3, ![2, 128, 512]⟩
abbrev S512x512 : Shape := ⟨2, ![512, 512]⟩
abbrev S16x128x512 : Shape := ⟨3, ![16, 128, 512]⟩
abbrev S128x512 : Shape := ⟨2, ![128, 512]⟩
abbrev S15 : Shape := ⟨1, ![15]⟩
abbrev S15x2 : Shape := ⟨2, ![15, 2]⟩
abbrev S2 : Shape := ⟨1, ![2]⟩
abbrev S_ : Shape := ⟨0, ![]⟩
abbrev S1x128x512 : Shape := ⟨3, ![1, 128, 512]⟩
abbrev S512x1024 : Shape := ⟨2, ![512, 1024]⟩
abbrev S1024x512 : Shape := ⟨2, ![1024, 512]⟩
abbrev S1 : Shape := ⟨1, ![1]⟩
abbrev S256x512 : Shape := ⟨2, ![256, 512]⟩
abbrev S512x128 : Shape := ⟨2, ![512, 128]⟩
abbrev S128x1024 : Shape := ⟨2, ![128, 1024]⟩
abbrev S1x1 : Shape := ⟨2, ![1, 1]⟩
abbrev S1x64x512 : Shape := ⟨3, ![1, 64, 512]⟩
abbrev S64x512 : Shape := ⟨2, ![64, 512]⟩

abbrev nBuf : Space → Nat
  | .hbm => 6
  | .vmem => 14
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2x128x512, .f32⟩
  | .local _ .vmem, ⟨6, _⟩ => ⟨S16x128x512, .bf16⟩
  | .local _ .vmem, ⟨7, _⟩ => ⟨S16x128x512, .bf16⟩
  | .local _ .vmem, ⟨8, _⟩ => ⟨S16x128x512, .bf16⟩
  | .local _ .vmem, ⟨9, _⟩ => ⟨S128x512, .bf16⟩
  | .local _ .vmem, ⟨10, _⟩ => ⟨S16x128x512, .bf16⟩
  | .local _ .vmem, ⟨11, _⟩ => ⟨S16x128x512, .bf16⟩
  | .local _ .vmem, ⟨12, _⟩ => ⟨S16x128x512, .bf16⟩
  | .local _ .vmem, ⟨13, _⟩ => ⟨S128x512, .bf16⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c0_i32_6 : BitVec 32 := 0#32
  let v17 : BitVec 1 := Scalar.cmpi .sgt v4 c0_i32_6
  let c4_i32_7 : BitVec 32 := 4#32
  let v18 : BitVec 32 := Scalar.subi v2 c4_i32_7
  let c1_i32_8 : BitVec 32 := 1#32
  let v19 : BitVec 32 := Scalar.subi v2 c1_i32_8
  let v20 : BitVec 32 := Scalar.select v17 v18 v19
  let c3_i32_9 : BitVec 32 := 3#32
  let v21 : BitVec 1 := Scalar.cmpi .slt v4 c3_i32_9
  let c4_i32_10 : BitVec 32 := 4#32
  let v22 : BitVec 32 := Scalar.addi v2 c4_i32_10
  let c2_i32_11 : BitVec 32 := 2#32
  let v23 : BitVec 1 := Scalar.cmpi .eq v3 c2_i32_11
  let c13_i32 : BitVec 32 := 13#32
  let c15_i32 : BitVec 32 := 15#32
  let v24 : BitVec 32 := Scalar.select v23 c13_i32 c15_i32
  let v25 : BitVec 32 := Scalar.select v21 v22 v24
  let v26 : BitVec 32 := Scalar.select v6 v20 v25
  let c1_i32_13 : BitVec 32 := 1#32
  let v28 : BitVec 32 := Scalar.muli v26 c1_i32_13
  let v29 : BitVec 32 := Scalar.addi c0_i32_14 v28
  v29.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c3_i32 : BitVec 32 := 3#32
  let v7 : BitVec 1 := Scalar.cmpi .slt v4 c3_i32
  let c4_i32_2 : BitVec 32 := 4#32
  let v8 : BitVec 32 := Scalar.addi v2 c4_i32_2
  let c1_i32_3 : BitVec 32 := 1#32
  let v9 : BitVec 1 := Scalar.cmpi .eq v3 c1_i32_3
  let c14_i32 : BitVec 32 := 14#32
  let c12_i32 : BitVec 32 := 12#32
  let v10 : BitVec 32 := Scalar.select v9 c14_i32 c12_i32
  let v11 : BitVec 32 := Scalar.select v7 v8 v10
  let c0_i32 : BitVec 32 := 0#32
  let v12 : BitVec 1 := Scalar.cmpi .sgt v4 c0_i32
  let c4_i32_4 : BitVec 32 := 4#32
  let v13 : BitVec 32 := Scalar.subi v2 c4_i32_4
  let c1_i32_5 : BitVec 32 := 1#32
  let v14 : BitVec 32 := Scalar.addi v2 c1_i32_5
  let v15 : BitVec 32 := Scalar.select v12 v13 v14
  let v16 : BitVec 32 := Scalar.select v6 v11 v15
  let c1_i32_16 : BitVec 32 := 1#32
  let v30 : BitVec 32 := Scalar.muli v16 c1_i32_16
  let v31 : BitVec 32 := Scalar.addi c0_i32_17 v30
  v31.toNat
@[reducible] def k0_t1_loop : Scf.Loop 32 :=
  let c0_i32_39 : BitVec 32 := 0#32
  let c15_i32_40 : BitVec 32 := 15#32
  let v76 : BitVec 32 := Scalar.addi c0_i32_39 c15_i32_40
  let c1_i32_41 : BitVec 32 := 1#32
  ⟨c0_i32_39, v76, c1_i32_41⟩
def k0_cond1 (k0_t1 : Fin k0_t1_loop.trips) : BitVec 1 :=
  let c0_i32_39 : BitVec 32 := 0#32
  let c1_i32_41 : BitVec 32 := 1#32
  let arg26 : BitVec 32 := Scf.iv c0_i32_39 c1_i32_41 k0_t1
  let c0_i32_325 : BitVec 32 := 0#32
  let v338 : BitVec 1 := Scalar.cmpi .sgt arg26 c0_i32_325
  let v339 : BitVec 32 := Scalar.extui v338
  let c0_i32_326 : BitVec 32 := 0#32
  let v340 : BitVec 1 := Scalar.cmpi .ne v339 c0_i32_326
  v340

def k0_off1 (k0_t1 : Fin k0_t1_loop.trips) : Fin 1 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  ![v480.toNat]
def k0_off2 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c1_i32_409 : BitVec 32 := 1#32
  let v481 : BitVec 32 := Scalar.addi v480 c1_i32_409
  let c0_i32_412 : BitVec 32 := 0#32
  let c0_i32_413 : BitVec 32 := 0#32
  ![v481.toNat, 0, 0]
def k0_off3 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c0_i32_414 : BitVec 32 := 0#32
  let c0_i32_415 : BitVec 32 := 0#32
  ![v480.toNat, 0, 0]
def k0_off4 (k0_t1 : Fin k0_t1_loop.trips) : Fin 1 → Nat :=
  let c0_i32_39 : BitVec 32 := 0#32
  let c1_i32_41 : BitVec 32 := 1#32
  let arg26 : BitVec 32 := Scf.iv c0_i32_39 c1_i32_41 k0_t1
  ![arg26.toNat]
def k0_off5 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_327 : BitVec 32 := 1#32
  let v341 : BitVec 32 := Scalar.addi arg26 c1_i32_327
  let c0_i32_330 : BitVec 32 := 0#32
  let c0_i32_331 : BitVec 32 := 0#32
  ![v341.toNat, 0, 0]
def k0_off6 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c0_i32_332 : BitVec 32 := 0#32
  let c0_i32_333 : BitVec 32 := 0#32
  ![arg26.toNat, 0, 0]
def k0_dev3 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c3_i32 : BitVec 32 := 3#32
  let v7 : BitVec 1 := Scalar.cmpi .slt v4 c3_i32
  let c4_i32_2 : BitVec 32 := 4#32
  let v8 : BitVec 32 := Scalar.addi v2 c4_i32_2
  let c1_i32_3 : BitVec 32 := 1#32
  let v9 : BitVec 1 := Scalar.cmpi .eq v3 c1_i32_3
  let c14_i32 : BitVec 32 := 14#32
  let c12_i32 : BitVec 32 := 12#32
  let v10 : BitVec 32 := Scalar.select v9 c14_i32 c12_i32
  let v11 : BitVec 32 := Scalar.select v7 v8 v10
  let c0_i32 : BitVec 32 := 0#32
  let v12 : BitVec 1 := Scalar.cmpi .sgt v4 c0_i32
  let c4_i32_4 : BitVec 32 := 4#32
  let v13 : BitVec 32 := Scalar.subi v2 c4_i32_4
  let c1_i32_5 : BitVec 32 := 1#32
  let v14 : BitVec 32 := Scalar.addi v2 c1_i32_5
  let v15 : BitVec 32 := Scalar.select v12 v13 v14
  let v16 : BitVec 32 := Scalar.select v6 v11 v15
  let c1_i32_328 : BitVec 32 := 1#32
  let v342 : BitVec 32 := Scalar.muli v16 c1_i32_328
  let v343 : BitVec 32 := Scalar.addi c0_i32_329 v342
  v343.toNat
def k0_dev4 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c0_i32_6 : BitVec 32 := 0#32
  let v17 : BitVec 1 := Scalar.cmpi .sgt v4 c0_i32_6
  let c4_i32_7 : BitVec 32 := 4#32
  let v18 : BitVec 32 := Scalar.subi v2 c4_i32_7
  let c1_i32_8 : BitVec 32 := 1#32
  let v19 : BitVec 32 := Scalar.subi v2 c1_i32_8
  let v20 : BitVec 32 := Scalar.select v17 v18 v19
  let c3_i32_9 : BitVec 32 := 3#32
  let v21 : BitVec 1 := Scalar.cmpi .slt v4 c3_i32_9
  let c4_i32_10 : BitVec 32 := 4#32
  let v22 : BitVec 32 := Scalar.addi v2 c4_i32_10
  let c2_i32_11 : BitVec 32 := 2#32
  let v23 : BitVec 1 := Scalar.cmpi .eq v3 c2_i32_11
  let c13_i32 : BitVec 32 := 13#32
  let c15_i32 : BitVec 32 := 15#32
  let v24 : BitVec 32 := Scalar.select v23 c13_i32 c15_i32
  let v25 : BitVec 32 := Scalar.select v21 v22 v24
  let v26 : BitVec 32 := Scalar.select v6 v20 v25
  let c1_i32_335 : BitVec 32 := 1#32
  let v353 : BitVec 32 := Scalar.muli v26 c1_i32_335
  let v354 : BitVec 32 := Scalar.addi c0_i32_336 v353
  v354.toNat
def k0_off7 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let v363 : Index := Scalar.indexCast arg26
  let c0_341 : Index := 0#32
  let c0_342 : Index := 0#32
  ![v363.toNat, 0, 0]
def k0_cond2 (k0_t1 : Fin k0_t1_loop.trips) : BitVec 1 :=
  let c0_i32_39 : BitVec 32 := 0#32
  let c1_i32_41 : BitVec 32 := 1#32
  let arg26 : BitVec 32 := Scf.iv c0_i32_39 c1_i32_41 k0_t1
  let c0_i32_356 : BitVec 32 := 0#32
  let v412 : BitVec 1 := Scalar.cmpi .sgt arg26 c0_i32_356
  let v413 : BitVec 32 := Scalar.extui v412
  let c0_i32_357 : BitVec 32 := 0#32
  let v414 : BitVec 1 := Scalar.cmpi .ne v413 c0_i32_357
  v414

def k0_off8 (k0_t1 : Fin k0_t1_loop.trips) : Fin 2 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c0_i32_410 : BitVec 32 := 0#32
  ![v480.toNat, 0]
def k0_off9 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c1_i32_409 : BitVec 32 := 1#32
  let v481 : BitVec 32 := Scalar.addi v480 c1_i32_409
  let c0_i32_414 : BitVec 32 := 0#32
  let c0_i32_415 : BitVec 32 := 0#32
  ![v481.toNat, 0, 0]
def k0_off10 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c0_i32_416 : BitVec 32 := 0#32
  let c0_i32_417 : BitVec 32 := 0#32
  ![v480.toNat, 0, 0]
def k0_off11 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let v497 : Index := Scalar.indexCast arg26
  let c0_425 : Index := 0#32
  let c0_426 : Index := 0#32
  ![v497.toNat, 0, 0]
def k0_off12 (k0_t1 : Fin k0_t1_loop.trips) : Fin 2 → Nat :=
  let c0_i32_39 : BitVec 32 := 0#32
  let c1_i32_41 : BitVec 32 := 1#32
  let arg26 : BitVec 32 := Scf.iv c0_i32_39 c1_i32_41 k0_t1
  let c0_i32_362 : BitVec 32 := 0#32
  ![arg26.toNat, 0]
def k0_off13 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_360 : BitVec 32 := 1#32
  let v418 : BitVec 32 := Scalar.addi arg26 c1_i32_360
  let c0_i32_365 : BitVec 32 := 0#32
  let c0_i32_366 : BitVec 32 := 0#32
  ![v418.toNat, 0, 0]
def k0_off14 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c0_i32_367 : BitVec 32 := 0#32
  let c0_i32_368 : BitVec 32 := 0#32
  ![arg26.toNat, 0, 0]
def k0_dev5 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c3_i32 : BitVec 32 := 3#32
  let v7 : BitVec 1 := Scalar.cmpi .slt v4 c3_i32
  let c4_i32_2 : BitVec 32 := 4#32
  let v8 : BitVec 32 := Scalar.addi v2 c4_i32_2
  let c1_i32_3 : BitVec 32 := 1#32
  let v9 : BitVec 1 := Scalar.cmpi .eq v3 c1_i32_3
  let c14_i32 : BitVec 32 := 14#32
  let c12_i32 : BitVec 32 := 12#32
  let v10 : BitVec 32 := Scalar.select v9 c14_i32 c12_i32
  let v11 : BitVec 32 := Scalar.select v7 v8 v10
  let c0_i32 : BitVec 32 := 0#32
  let v12 : BitVec 1 := Scalar.cmpi .sgt v4 c0_i32
  let c4_i32_4 : BitVec 32 := 4#32
  let v13 : BitVec 32 := Scalar.subi v2 c4_i32_4
  let c1_i32_5 : BitVec 32 := 1#32
  let v14 : BitVec 32 := Scalar.addi v2 c1_i32_5
  let v15 : BitVec 32 := Scalar.select v12 v13 v14
  let v16 : BitVec 32 := Scalar.select v6 v11 v15
  let c1_i32_363 : BitVec 32 := 1#32
  let v419 : BitVec 32 := Scalar.muli v16 c1_i32_363
  let v420 : BitVec 32 := Scalar.addi c0_i32_364 v419
  v420.toNat
def k0_cond4 (k0_t1 : Fin k0_t1_loop.trips) : BitVec 1 :=
  let c0_i32_39 : BitVec 32 := 0#32
  let c1_i32_41 : BitVec 32 := 1#32
  let arg26 : BitVec 32 := Scf.iv c0_i32_39 c1_i32_41 k0_t1
  let c0_i32_369 : BitVec 32 := 0#32
  let v429 : BitVec 1 := Scalar.cmpi .sgt arg26 c0_i32_369
  let v430 : BitVec 32 := Scalar.extui v429
  let c0_i32_370 : BitVec 32 := 0#32
  let v431 : BitVec 1 := Scalar.cmpi .ne v430 c0_i32_370
  v431

def k0_off15 (k0_t1 : Fin k0_t1_loop.trips) : Fin 2 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c0_i32_410 : BitVec 32 := 0#32
  ![v480.toNat, 0]
def k0_off16 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c1_i32_409 : BitVec 32 := 1#32
  let v481 : BitVec 32 := Scalar.addi v480 c1_i32_409
  let c0_i32_414 : BitVec 32 := 0#32
  let c0_i32_415 : BitVec 32 := 0#32
  ![v481.toNat, 0, 0]
def k0_off17 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c0_i32_416 : BitVec 32 := 0#32
  let c0_i32_417 : BitVec 32 := 0#32
  ![v480.toNat, 0, 0]
def k0_off18 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let v497 : Index := Scalar.indexCast arg26
  let c0_425 : Index := 0#32
  let c0_426 : Index := 0#32
  ![v497.toNat, 0, 0]
def k0_dev6 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c0_i32_6 : BitVec 32 := 0#32
  let v17 : BitVec 1 := Scalar.cmpi .sgt v4 c0_i32_6
  let c4_i32_7 : BitVec 32 := 4#32
  let v18 : BitVec 32 := Scalar.subi v2 c4_i32_7
  let c1_i32_8 : BitVec 32 := 1#32
  let v19 : BitVec 32 := Scalar.subi v2 c1_i32_8
  let v20 : BitVec 32 := Scalar.select v17 v18 v19
  let c3_i32_9 : BitVec 32 := 3#32
  let v21 : BitVec 1 := Scalar.cmpi .slt v4 c3_i32_9
  let c4_i32_10 : BitVec 32 := 4#32
  let v22 : BitVec 32 := Scalar.addi v2 c4_i32_10
  let c2_i32_11 : BitVec 32 := 2#32
  let v23 : BitVec 1 := Scalar.cmpi .eq v3 c2_i32_11
  let c13_i32 : BitVec 32 := 13#32
  let c15_i32 : BitVec 32 := 15#32
  let v24 : BitVec 32 := Scalar.select v23 c13_i32 c15_i32
  let v25 : BitVec 32 := Scalar.select v21 v22 v24
  let v26 : BitVec 32 := Scalar.select v6 v20 v25
  let c1_i32_376 : BitVec 32 := 1#32
  let v436 : BitVec 32 := Scalar.muli v26 c1_i32_376
  let v437 : BitVec 32 := Scalar.addi c0_i32_377 v436
  v437.toNat
def k0_cond6 (k0_t1 : Fin k0_t1_loop.trips) : BitVec 1 :=
  let c0_i32_39 : BitVec 32 := 0#32
  let c1_i32_41 : BitVec 32 := 1#32
  let arg26 : BitVec 32 := Scf.iv c0_i32_39 c1_i32_41 k0_t1
  let c0_i32_382 : BitVec 32 := 0#32
  let v446 : BitVec 1 := Scalar.cmpi .sgt arg26 c0_i32_382
  let v447 : BitVec 32 := Scalar.extui v446
  let c0_i32_383 : BitVec 32 := 0#32
  let v448 : BitVec 1 := Scalar.cmpi .ne v447 c0_i32_383
  v448

def k0_off19 (k0_t1 : Fin k0_t1_loop.trips) : Fin 2 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c1_i32_410 : BitVec 32 := 1#32
  ![v480.toNat, 1]
def k0_off20 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c1_i32_409 : BitVec 32 := 1#32
  let v481 : BitVec 32 := Scalar.addi v480 c1_i32_409
  let c64_i32_414 : BitVec 32 := 64#32
  let c0_i32_415 : BitVec 32 := 0#32
  ![v481.toNat, 64, 0]
def k0_off21 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c64_i32_416 : BitVec 32 := 64#32
  let c0_i32_417 : BitVec 32 := 0#32
  ![v480.toNat, 64, 0]
def k0_off22 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let v497 : Index := Scalar.indexCast arg26
  let c64_425 : Index := 64#32
  let c0_426 : Index := 0#32
  ![v497.toNat, 64, 0]
def k0_off23 (k0_t1 : Fin k0_t1_loop.trips) : Fin 2 → Nat :=
  let c0_i32_39 : BitVec 32 := 0#32
  let c1_i32_41 : BitVec 32 := 1#32
  let arg26 : BitVec 32 := Scf.iv c0_i32_39 c1_i32_41 k0_t1
  let c1_i32_388 : BitVec 32 := 1#32
  ![arg26.toNat, 1]
def k0_off24 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_386 : BitVec 32 := 1#32
  let v452 : BitVec 32 := Scalar.addi arg26 c1_i32_386
  let c64_i32_391 : BitVec 32 := 64#32
  let c0_i32_392 : BitVec 32 := 0#32
  ![v452.toNat, 64, 0]
def k0_off25 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c64_i32_393 : BitVec 32 := 64#32
  let c0_i32_394 : BitVec 32 := 0#32
  ![arg26.toNat, 64, 0]
def k0_dev7 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c3_i32 : BitVec 32 := 3#32
  let v7 : BitVec 1 := Scalar.cmpi .slt v4 c3_i32
  let c4_i32_2 : BitVec 32 := 4#32
  let v8 : BitVec 32 := Scalar.addi v2 c4_i32_2
  let c1_i32_3 : BitVec 32 := 1#32
  let v9 : BitVec 1 := Scalar.cmpi .eq v3 c1_i32_3
  let c14_i32 : BitVec 32 := 14#32
  let c12_i32 : BitVec 32 := 12#32
  let v10 : BitVec 32 := Scalar.select v9 c14_i32 c12_i32
  let v11 : BitVec 32 := Scalar.select v7 v8 v10
  let c0_i32 : BitVec 32 := 0#32
  let v12 : BitVec 1 := Scalar.cmpi .sgt v4 c0_i32
  let c4_i32_4 : BitVec 32 := 4#32
  let v13 : BitVec 32 := Scalar.subi v2 c4_i32_4
  let c1_i32_5 : BitVec 32 := 1#32
  let v14 : BitVec 32 := Scalar.addi v2 c1_i32_5
  let v15 : BitVec 32 := Scalar.select v12 v13 v14
  let v16 : BitVec 32 := Scalar.select v6 v11 v15
  let c1_i32_389 : BitVec 32 := 1#32
  let v453 : BitVec 32 := Scalar.muli v16 c1_i32_389
  let v454 : BitVec 32 := Scalar.addi c0_i32_390 v453
  v454.toNat
def k0_cond8 (k0_t1 : Fin k0_t1_loop.trips) : BitVec 1 :=
  let c0_i32_39 : BitVec 32 := 0#32
  let c1_i32_41 : BitVec 32 := 1#32
  let arg26 : BitVec 32 := Scf.iv c0_i32_39 c1_i32_41 k0_t1
  let c0_i32_395 : BitVec 32 := 0#32
  let v463 : BitVec 1 := Scalar.cmpi .sgt arg26 c0_i32_395
  let v464 : BitVec 32 := Scalar.extui v463
  let c0_i32_396 : BitVec 32 := 0#32
  let v465 : BitVec 1 := Scalar.cmpi .ne v464 c0_i32_396
  v465

def k0_off26 (k0_t1 : Fin k0_t1_loop.trips) : Fin 2 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c1_i32_410 : BitVec 32 := 1#32
  ![v480.toNat, 1]
def k0_off27 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c1_i32_409 : BitVec 32 := 1#32
  let v481 : BitVec 32 := Scalar.addi v480 c1_i32_409
  let c64_i32_414 : BitVec 32 := 64#32
  let c0_i32_415 : BitVec 32 := 0#32
  ![v481.toNat, 64, 0]
def k0_off28 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let c1_i32_408 : BitVec 32 := 1#32
  let v480 : BitVec 32 := Scalar.subi arg26 c1_i32_408
  let c64_i32_416 : BitVec 32 := 64#32
  let c0_i32_417 : BitVec 32 := 0#32
  ![v480.toNat, 64, 0]
def k0_off29 (k0_t1 : Fin k0_t1_loop.trips) : Fin 3 → Nat :=
  let c0_i32_39 : BitVec 32 := 0#32
  let c1_i32_41 : BitVec 32 := 1#32
  let arg26 : BitVec 32 := Scf.iv c0_i32_39 c1_i32_41 k0_t1
  let v497 : Index := Scalar.indexCast arg26
  let c64_425 : Index := 64#32
  let c0_426 : Index := 0#32
  ![v497.toNat, 64, 0]
def k0_dev8 (d0 : Dev nD) : Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c0_i32_6 : BitVec 32 := 0#32
  let v17 : BitVec 1 := Scalar.cmpi .sgt v4 c0_i32_6
  let c4_i32_7 : BitVec 32 := 4#32
  let v18 : BitVec 32 := Scalar.subi v2 c4_i32_7
  let c1_i32_8 : BitVec 32 := 1#32
  let v19 : BitVec 32 := Scalar.subi v2 c1_i32_8
  let v20 : BitVec 32 := Scalar.select v17 v18 v19
  let c3_i32_9 : BitVec 32 := 3#32
  let v21 : BitVec 1 := Scalar.cmpi .slt v4 c3_i32_9
  let c4_i32_10 : BitVec 32 := 4#32
  let v22 : BitVec 32 := Scalar.addi v2 c4_i32_10
  let c2_i32_11 : BitVec 32 := 2#32
  let v23 : BitVec 1 := Scalar.cmpi .eq v3 c2_i32_11
  let c13_i32 : BitVec 32 := 13#32
  let c15_i32 : BitVec 32 := 15#32
  let v24 : BitVec 32 := Scalar.select v23 c13_i32 c15_i32
  let v25 : BitVec 32 := Scalar.select v21 v22 v24
  let v26 : BitVec 32 := Scalar.select v6 v20 v25
  let c1_i32_402 : BitVec 32 := 1#32
  let v470 : BitVec 32 := Scalar.muli v26 c1_i32_402
  let v471 : BitVec 32 := Scalar.addi c0_i32_403 v470
  v471.toNat
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c3_i32 : BitVec 32 := 3#32
  let v7 : BitVec 1 := Scalar.cmpi .slt v4 c3_i32
  let c4_i32_2 : BitVec 32 := 4#32
  let v8 : BitVec 32 := Scalar.addi v2 c4_i32_2
  let c1_i32_3 : BitVec 32 := 1#32
  let v9 : BitVec 1 := Scalar.cmpi .eq v3 c1_i32_3
  let c14_i32 : BitVec 32 := 14#32
  let c12_i32 : BitVec 32 := 12#32
  let v10 : BitVec 32 := Scalar.select v9 c14_i32 c12_i32
  let v11 : BitVec 32 := Scalar.select v7 v8 v10
  let c0_i32 : BitVec 32 := 0#32
  let v12 : BitVec 1 := Scalar.cmpi .sgt v4 c0_i32
  let c4_i32_4 : BitVec 32 := 4#32
  let v13 : BitVec 32 := Scalar.subi v2 c4_i32_4
  let c1_i32_5 : BitVec 32 := 1#32
  let v14 : BitVec 32 := Scalar.addi v2 c1_i32_5
  let v15 : BitVec 32 := Scalar.select v12 v13 v14
  let v16 : BitVec 32 := Scalar.select v6 v11 v15
  let c1_i32_128 : BitVec 32 := 1#32
  let v175 : BitVec 32 := Scalar.muli v16 c1_i32_128
  let v176 : BitVec 32 := Scalar.addi c0_i32_129 v175
  v176.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c0_i32_6 : BitVec 32 := 0#32
  let v17 : BitVec 1 := Scalar.cmpi .sgt v4 c0_i32_6
  let c4_i32_7 : BitVec 32 := 4#32
  let v18 : BitVec 32 := Scalar.subi v2 c4_i32_7
  let c1_i32_8 : BitVec 32 := 1#32
  let v19 : BitVec 32 := Scalar.subi v2 c1_i32_8
  let v20 : BitVec 32 := Scalar.select v17 v18 v19
  let c3_i32_9 : BitVec 32 := 3#32
  let v21 : BitVec 1 := Scalar.cmpi .slt v4 c3_i32_9
  let c4_i32_10 : BitVec 32 := 4#32
  let v22 : BitVec 32 := Scalar.addi v2 c4_i32_10
  let c2_i32_11 : BitVec 32 := 2#32
  let v23 : BitVec 1 := Scalar.cmpi .eq v3 c2_i32_11
  let c13_i32 : BitVec 32 := 13#32
  let c15_i32 : BitVec 32 := 15#32
  let v24 : BitVec 32 := Scalar.select v23 c13_i32 c15_i32
  let v25 : BitVec 32 := Scalar.select v21 v22 v24
  let v26 : BitVec 32 := Scalar.select v6 v20 v25
  let c1_i32_166 : BitVec 32 := 1#32
  let v207 : BitVec 32 := Scalar.muli v26 c1_i32_166
  let v208 : BitVec 32 := Scalar.addi c0_i32_167 v207
  v208.toNat
def k0_dev11 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c3_i32 : BitVec 32 := 3#32
  let v7 : BitVec 1 := Scalar.cmpi .slt v4 c3_i32
  let c4_i32_2 : BitVec 32 := 4#32
  let v8 : BitVec 32 := Scalar.addi v2 c4_i32_2
  let c1_i32_3 : BitVec 32 := 1#32
  let v9 : BitVec 1 := Scalar.cmpi .eq v3 c1_i32_3
  let c14_i32 : BitVec 32 := 14#32
  let c12_i32 : BitVec 32 := 12#32
  let v10 : BitVec 32 := Scalar.select v9 c14_i32 c12_i32
  let v11 : BitVec 32 := Scalar.select v7 v8 v10
  let c0_i32 : BitVec 32 := 0#32
  let v12 : BitVec 1 := Scalar.cmpi .sgt v4 c0_i32
  let c4_i32_4 : BitVec 32 := 4#32
  let v13 : BitVec 32 := Scalar.subi v2 c4_i32_4
  let c1_i32_5 : BitVec 32 := 1#32
  let v14 : BitVec 32 := Scalar.addi v2 c1_i32_5
  let v15 : BitVec 32 := Scalar.select v12 v13 v14
  let v16 : BitVec 32 := Scalar.select v6 v11 v15
  let c1_i32_203 : BitVec 32 := 1#32
  let v239 : BitVec 32 := Scalar.muli v16 c1_i32_203
  let v240 : BitVec 32 := Scalar.addi c0_i32_204 v239
  v240.toNat
def k0_dev12 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c1_i32_1 : BitVec 32 := 1#32
  let v6 : BitVec 1 := Scalar.cmpi .eq v5 c1_i32_1
  let c4_i32_0 : BitVec 32 := 4#32
  let v4 : BitVec 32 := Scalar.divsi v2 c4_i32_0
  let c0_i32_6 : BitVec 32 := 0#32
  let v17 : BitVec 1 := Scalar.cmpi .sgt v4 c0_i32_6
  let c4_i32_7 : BitVec 32 := 4#32
  let v18 : BitVec 32 := Scalar.subi v2 c4_i32_7
  let c1_i32_8 : BitVec 32 := 1#32
  let v19 : BitVec 32 := Scalar.subi v2 c1_i32_8
  let v20 : BitVec 32 := Scalar.select v17 v18 v19
  let c3_i32_9 : BitVec 32 := 3#32
  let v21 : BitVec 1 := Scalar.cmpi .slt v4 c3_i32_9
  let c4_i32_10 : BitVec 32 := 4#32
  let v22 : BitVec 32 := Scalar.addi v2 c4_i32_10
  let c2_i32_11 : BitVec 32 := 2#32
  let v23 : BitVec 1 := Scalar.cmpi .eq v3 c2_i32_11
  let c13_i32 : BitVec 32 := 13#32
  let c15_i32 : BitVec 32 := 15#32
  let v24 : BitVec 32 := Scalar.select v23 c13_i32 c15_i32
  let v25 : BitVec 32 := Scalar.select v21 v22 v24
  let v26 : BitVec 32 := Scalar.select v6 v20 v25
  let c1_i32_241 : BitVec 32 := 1#32
  let v271 : BitVec 32 := Scalar.muli v26 c1_i32_241
  let v272 : BitVec 32 := Scalar.addi c0_i32_242 v271
  v272.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32x128x512 : Shape := ⟨3, ![32, 128, 512]⟩
abbrev S512x8192 : Shape := ⟨2, ![512, 8192]⟩
abbrev S8192x512 : Shape := ⟨2, ![8192, 512]⟩
abbrev S32x128x8192 : Shape := ⟨3, ![32, 128, 8192]⟩
abbrev S32x128x128x64 : Shape := ⟨4, ![32, 128, 128, 64]⟩
abbrev S_ : Shape := ⟨0, ![]⟩
abbrev S32x128x128x1 : Shape := ⟨4, ![32, 128, 128, 1]⟩
abbrev S32x128x128x128 : Shape := ⟨4, ![32, 128, 128, 128]⟩
abbrev S32x128x128 : Shape := ⟨3, ![32, 128, 128]⟩
abbrev S32x128x64x128 : Shape := ⟨4, ![32, 128, 64, 128]⟩

abbrev nBuf : Space → Nat
  | .hbm => 46
  | .vmem => 0
  | .smem => 0
  | _ => 0

abbrev bufTy : (tb : Table) → Fin (tcTables nBuf tb) → BufTy
  | .hbm, ⟨0, _⟩ => ⟨S32x128x512, .f32⟩
  | .hbm, ⟨1, _⟩ => ⟨S512x8192, .f32⟩
  | .hbm, ⟨2, _⟩ => ⟨S8192x512, .f32⟩
  | .hbm, ⟨3, _⟩ => ⟨S512x8192, .f32⟩
  | .hbm, ⟨4, _⟩ => ⟨S512x8192, .f32⟩
  | .hbm, ⟨5, _⟩ => ⟨S32x128x8192, .f32⟩
  | .hbm, ⟨6, _⟩ => ⟨S32x128x128x64, .f32⟩
  | .hbm, ⟨7, _⟩ => ⟨S32x128x8192, .f32⟩
  | .hbm, ⟨8, _⟩ => ⟨S32x128x128x64, .f32⟩
  | .hbm, ⟨9, _⟩ => ⟨S32x128x8192, .f32⟩
  | .hbm, ⟨10, _⟩ => ⟨S32x128x128x64, .f32⟩
  | .hbm, ⟨11, _⟩ => ⟨S_, .f32⟩
  | .hbm, ⟨12, _⟩ => ⟨S32x128x128x64, .f32⟩
  | .hbm, ⟨13, _⟩ => ⟨S_, .f32⟩
  | .hbm, ⟨14, _⟩ => ⟨S32x128x128x1, .f32⟩
  | .hbm, ⟨15, _⟩ => ⟨S_, .f32⟩
  | .hbm, ⟨16, _⟩ => ⟨S32x128x128x1, .f32⟩
  | .hbm, ⟨17, _⟩ => ⟨S32x128x128x128, .f32⟩
  | .hbm, ⟨18, _⟩ => ⟨S_, .f32⟩
  | .hbm, ⟨19, _⟩ => ⟨S32x128x128x128, .f32⟩
  | .hbm, ⟨20, _⟩ => ⟨S32x128x128x128, .f32⟩
  | .hbm, ⟨21, _⟩ => ⟨S_, .f32⟩
  | .hbm, ⟨22, _⟩ => ⟨S32x128x128, .f32⟩
  | .hbm, ⟨23, _⟩ => ⟨S32x128x128x1, .f32⟩
  | .hbm, ⟨24, _⟩ => ⟨S32x128x128x1, .f32⟩
  | .hbm, ⟨25, _⟩ => ⟨S32x128x128x1, .f32⟩
  | .hbm, ⟨26, _⟩ => ⟨S32x128x128x1, .f32⟩
  | .hbm, ⟨27, _⟩ => ⟨S32x128x128x128, .f32⟩
  | .hbm, ⟨28, _⟩ => ⟨S32x128x128x128, .f32⟩
  | .hbm, ⟨29, _⟩ => ⟨S32x128x128x128, .f32⟩
  | .hbm, ⟨30, _⟩ => ⟨S32x128x128x1, .f32⟩
  | .hbm, ⟨31, _⟩ => ⟨S_, .f32⟩
  | .hbm, ⟨32, _⟩ => ⟨S32x128x128, .f32⟩
  | .hbm, ⟨33, _⟩ => ⟨S32x128x128x1, .f32⟩
  | .hbm, ⟨34, _⟩ => ⟨S32x128x128x1, .f32⟩
  | .hbm, ⟨35, _⟩ => ⟨S32x128x128x1, .f32⟩
  | .hbm, ⟨36, _⟩ => ⟨S32x128x128x64, .f32⟩
  | .hbm, ⟨37, _⟩ => ⟨S32x128x128x64, .f32⟩
  | .hbm, ⟨38, _⟩ => ⟨S32x128x64x128, .f32⟩
  | .hbm, ⟨39, _⟩ => ⟨S32x128x128x64, .f32⟩
  | .hbm, ⟨40, _⟩ => ⟨S32x128x128x64, .f32⟩
  | .hbm, ⟨41, _⟩ => ⟨S32x128x128x1, .f32⟩
  | .hbm, ⟨42, _⟩ => ⟨S32x128x128x64, .f32⟩
  | .hbm, ⟨43, _⟩ => ⟨S32x128x128x64, .f32⟩
  | .hbm, ⟨44, _⟩ => ⟨S32x128x8192, .f32⟩
  | .hbm, ⟨45, _⟩ => ⟨S32x128x512, .f32⟩
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Ring.lean ====
/-
The ring of sixteen devices, the cells of the kernel's semaphores, what its buffers hold, and the
schedule of its transfers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The ring

The direction `false` is the right-going ring, `true` the left-going one. -/

set_option backward.proofsInPublic true in
/-- The device that `c` sends to in direction `d`. -/
def nxt (d : Bool) (c : Dev nD) : Dev nD :=
  bif d then (![4, 0, 6, 2, 8, 1, 10, 3, 12, 5, 14, 7, 15, 9, 13, 11] : Fin 16 → Fin 16) c
  else (![1, 5, 3, 7, 0, 9, 2, 11, 4, 13, 6, 15, 8, 14, 10, 12] : Fin 16 → Fin 16) c

/-- The device that `c` receives from in direction `d`. -/
abbrev prv (d : Bool) (c : Dev nD) : Dev nD := nxt (!d) c

theorem prv_nxt (d : Bool) (c : Dev nD) : nxt (!d) (nxt d c) = c := by revert d c; decide
theorem nxt_prv (d : Bool) (c : Dev nD) : nxt d (nxt (!d) c) = c := by revert d c; decide

/-- One direction of the ring, as a bijection of the devices. -/
def ring (d : Bool) : Dev nD ≃ Dev nD := ⟨nxt d, nxt (!d), prv_nxt d, nxt_prv d⟩

theorem dev1_eq (c : Dev nD) : (⟨k0_dev1 c, k0_dev1_lt c⟩ : Dev nD) = nxt true c := by revert c; decide
theorem dev2_eq (c : Dev nD) : (⟨k0_dev2 c, k0_dev2_lt c⟩ : Dev nD) = nxt false c := by revert c; decide
theorem dev3_eq (c : Dev nD) : (⟨k0_dev3 c, k0_dev3_lt c⟩ : Dev nD) = nxt false c := by revert c; decide
theorem dev4_eq (c : Dev nD) : (⟨k0_dev4 c, k0_dev4_lt c⟩ : Dev nD) = nxt true c := by revert c; decide
theorem dev5_eq (c : Dev nD) : (⟨k0_dev5 c, k0_dev5_lt c⟩ : Dev nD) = nxt false c := by revert c; decide
theorem dev6_eq (c : Dev nD) : (⟨k0_dev6 c, k0_dev6_lt c⟩ : Dev nD) = nxt true c := by revert c; decide
theorem dev7_eq (c : Dev nD) : (⟨k0_dev7 c, k0_dev7_lt c⟩ : Dev nD) = nxt false c := by revert c; decide
theorem dev8_eq (c : Dev nD) : (⟨k0_dev8 c, k0_dev8_lt c⟩ : Dev nD) = nxt true c := by revert c; decide
theorem dev9_eq (c : Dev nD) : (⟨k0_dev9 c, k0_dev9_lt c⟩ : Dev nD) = nxt false c := by revert c; decide
theorem dev10_eq (c : Dev nD) : (⟨k0_dev10 c, k0_dev10_lt c⟩ : Dev nD) = nxt true c := by revert c; decide
theorem dev11_eq (c : Dev nD) : (⟨k0_dev11 c, k0_dev11_lt c⟩ : Dev nD) = nxt false c := by revert c; decide
theorem dev12_eq (c : Dev nD) : (⟨k0_dev12 c, k0_dev12_lt c⟩ : Dev nD) = nxt true c := by revert c; decide

/-! ## The buffers and their slots -/

abbrev xbM (d : Bool) : Memref sig .tc .vmem S16x128x512 .bf16 := match d with
  | false => Memref.whole cc0_scratch0 | true => Memref.whole cc0_scratch4
abbrev cbM (d : Bool) : Memref sig .tc .vmem S16x128x512 .bf16 := match d with
  | false => Memref.whole cc0_scratch1 | true => Memref.whole cc0_scratch5
abbrev arM (d : Bool) : Memref sig .tc .vmem S16x128x512 .bf16 := match d with
  | false => Memref.whole cc0_scratch2 | true => Memref.whole cc0_scratch6
abbrev finM (d : Bool) : Memref sig .tc .vmem S128x512 .bf16 := match d with
  | false => Memref.whole cc0_scratch3 | true => Memref.whole cc0_scratch7

/-- The first row of a half. -/
abbrev row (h : Bool) : ℕ := match h with | false => 0 | true => 64

theorem xinb : ∀ k : Fin 16, ∀ a, (![k.val, 0, 0] : Fin 3 → ℕ) a + S1x128x512.size a ≤ S16x128x512.size a := by decide +kernel
theorem hinb : ∀ (h : Bool) (k : Fin 16), ∀ a, (![k.val, row h, 0] : Fin 3 → ℕ) a + S1x64x512.size a ≤ S16x128x512.size a := by decide +kernel
theorem finb : ∀ h : Bool, ∀ a, (![row h, 0] : Fin 2 → ℕ) a + S64x512.size a ≤ S128x512.size a := by decide +kernel

/-- Slot `k` of a buffer of sixteen blocks. -/
abbrev slot (M : Memref sig .tc .vmem S16x128x512 .bf16) (k : Fin 16) : Memref sig .tc .vmem S1x128x512 .bf16 :=
  M.slice (Rect.unit (s := S16x128x512) ![k.val, 0, 0] S1x128x512.size (xinb k)) (fun _ => rfl)
/-- Half `h` of slot `k`. -/
abbrev half (M : Memref sig .tc .vmem S16x128x512 .bf16) (h : Bool) (k : Fin 16) : Memref sig .tc .vmem S1x64x512 .bf16 :=
  M.slice (Rect.unit (s := S16x128x512) ![k.val, row h, 0] S1x64x512.size (hinb h k)) (fun _ => rfl)
/-- Half `h` of a buffer of one block. -/
abbrev fhalf (M : Memref sig .tc .vmem S128x512 .bf16) (h : Bool) : Memref sig .tc .vmem S64x512 .bf16 :=
  M.slice (Rect.unit (s := S128x512) ![row h, 0] S64x512.size (finb h)) (fun _ => rfl)

abbrev sqx (s : Memref sig .tc .vmem S1x128x512 .bf16) : Memref sig .tc .vmem S128x512 .bf16 := s.squeeze S128x512 squeezes_S1x128x512_S128x512
abbrev sqh (s : Memref sig .tc .vmem S1x64x512 .bf16) : Memref sig .tc .vmem S64x512 .bf16 := s.squeeze S64x512 squeezes_S1x64x512_S64x512

theorem slot_eq (M : Memref sig .tc .vmem S16x128x512 .bf16) {off : Fin 3 → ℕ} {inb} (k : Fin 16) (h : off = ![k.val, 0, 0]) :
    M.slice (Rect.unit (s := S16x128x512) off S1x128x512.size inb) (fun _ => rfl) = slot M k := by subst h; rfl
theorem half_eq (M : Memref sig .tc .vmem S16x128x512 .bf16) {off : Fin 3 → ℕ} {inb} (b : Bool) (k : Fin 16) (h : off = ![k.val, row b, 0]) :
    M.slice (Rect.unit (s := S16x128x512) off S1x64x512.size inb) (fun _ => rfl) = half M b k := by subst h; rfl

/-! ## The semaphores -/

/-- The kinds of a trip's cells in one direction: of the copy of `x`, or of a half of the partial sums; of its
    sender (`false`) or of its receiver (`true`). -/
abbrev Kind := Bool ⊕ (Bool × Bool)
/-- The kernel's own cells: a trip's, or those of the last copies (half, sender or receiver). -/
abbrev OKey := (Fin 15 × Bool × Kind) ⊕ (Bool × Bool × Bool)
/-- With the runtime's barrier cell. -/
abbrev Key := Unit ⊕ OKey

abbrev kBar : Key := .inl ()
abbrev kX (k : Fin 15) (d r : Bool) : Key := .inr (.inl (k, d, .inl r))
abbrev kA (k : Fin 15) (d h r : Bool) : Key := .inr (.inl (k, d, .inr (h, r)))
abbrev kF (d h r : Bool) : Key := .inr (.inr (d, h, r))

abbrev b2n (b : Bool) : ℕ := match b with | false => 0 | true => 1

/-- The number of a cell's DMA semaphore. -/
def semNo : OKey → ℕ
  | .inl (k, d, .inl r) => 6 + 90 * b2n d + 15 * b2n r + k.val
  | .inl (k, d, .inr (h, r)) => 36 + 90 * b2n d + 30 * b2n r + 2 * k.val + b2n h
  | .inr (d, h, r) => 186 + 4 * b2n d + 2 * b2n r + b2n h

theorem semNo_lt : ∀ k : OKey, semNo k < 194 := by decide +kernel
theorem semNo_ge : ∀ k : OKey, 6 ≤ semNo k := by decide +kernel

def dsem (k : OKey) : DmaSem sig := ⟨semNo k, semNo_lt k⟩

/-- The cell of a DMA semaphore's number. -/
def dec (n : ℕ) : Option OKey :=
  let b (i : ℕ) : Bool := i % 2 == 1
  let f (i : ℕ) : Fin 15 := ⟨i % 15, Nat.mod_lt _ (by decide)⟩
  if n < 6 then none
  else if n < 186 then
    let d := b ((n - 6) / 90)
    let r := (n - 6) % 90
    if r < 30 then some (.inl (f r, d, .inl (b (r / 15))))
    else some (.inl (f (((r - 30) % 30) / 2), d, .inr (b (r - 30), b ((r - 30) / 30))))
  else some (.inr (b ((n - 186) / 4), b (n - 186), b ((n - 186) / 2)))

instance : DecidableEq OKey := inferInstanceAs (DecidableEq ((Fin 15 × Bool × (Bool ⊕ (Bool × Bool))) ⊕ (Bool × Bool × Bool)))

theorem dec_semNo : ∀ k : OKey, dec (semNo k) = some k := by decide +kernel

abbrev barS : Sem sig := (SemArray.scalar (sig.barrier 0 rfl) : Sems sig S_).sem

abbrev osem : OKey → SemLoc sig := fun k => .dma (dsem k)
def csem : Key → SemLoc sig
  | .inl _ => .reg barS
  | .inr k => osem k
abbrev kcell (c : Dev nD) (k : Key) : GSem nD τ sig := ((c : Thread nD τ), csem k)

/-- The cell of a semaphore. -/
def keyOf : SemLoc sig → Option Key
  | .reg s => if s = barS then some kBar else none
  | .dma s => (dec s.val).map .inr

theorem keyOf_csem (k : Key) : keyOf (csem k) = some k := by
  rcases k with k | k
  · show (if barS = barS then some kBar else none) = some (.inl k)
    rw [if_pos rfl]
  · show (dec (semNo k)).map Sum.inr = some (.inr k)
    rw [dec_semNo]; rfl

theorem csem_injective : Function.Injective csem := fun a b h => by
  have := congrArg keyOf h; rw [keyOf_csem, keyOf_csem] at this; exact Option.some.inj this

theorem kcell_injective : Function.Injective (fun ck : Dev nD × Key => kcell ck.1 ck.2) := fun a b h => by
  have h1 : a.1 = b.1 := congrArg (fun g : GSem nD τ sig => g.1.1) h
  have h2 : csem a.2 = csem b.2 := congrArg (fun g : GSem nD τ sig => g.2) h
  exact Prod.ext h1 (csem_injective h2)

abbrev sS15 (d r : Bool) : DmaSems sig S15 := match d, r with
  | false, false => cc0_scratch8 | false, true => cc0_scratch9 | true, false => cc0_scratch12 | true, true => cc0_scratch13
abbrev sS15x2 (d r : Bool) : DmaSems sig S15x2 := match d, r with
  | false, false => cc0_scratch10 | false, true => cc0_scratch11 | true, false => cc0_scratch14 | true, true => cc0_scratch15
abbrev sS2 (d r : Bool) : DmaSems sig S2 := match d, r with
  | false, false => cc0_scratch16 | false, true => cc0_scratch17 | true, false => cc0_scratch18 | true, true => cc0_scratch19

theorem sinb15 : ∀ k : Fin 15, ∀ a, (![k.val] : Fin 1 → ℕ) a + S1.size a ≤ S15.size a := by decide +kernel
theorem sinb15x2 : ∀ (k : Fin 15) (h : Bool), ∀ a, (![k.val, b2n h] : Fin 2 → ℕ) a + S1x1.size a ≤ S15x2.size a := by decide +kernel
theorem sinb2 : ∀ h : Bool, ∀ a, (![b2n h] : Fin 1 → ℕ) a + S1.size a ≤ S2.size a := by decide +kernel

theorem semX_canon : ∀ (d r : Bool) (k : Fin 15),
    (((sS15 d r).slice (Rect.unit (s := S15) ![k.val] S1.size (sinb15 k))).squeeze S_ squeezes_S1_S_).sem = dsem (.inl (k, d, .inl r)) := by
  decide +kernel
theorem semA_canon : ∀ (d r h : Bool) (k : Fin 15),
    (((sS15x2 d r).slice (Rect.unit (s := S15x2) ![k.val, b2n h] S1x1.size (sinb15x2 k h))).squeeze S_ squeezes_S1x1_S_).sem
      = dsem (.inl (k, d, .inr (h, r))) := by
  decide +kernel
theorem semF_canon : ∀ (d r h : Bool),
    (((sS2 d r).slice (Rect.unit (s := S2) ![b2n h] S1.size (sinb2 h))).squeeze S_ squeezes_S1_S_).sem = dsem (.inr (d, h, r)) := by
  decide +kernel

theorem semX_eq (d r : Bool) (k : Fin 15) {off : Fin 1 → ℕ} {inb} (h : off = ![k.val]) :
    (((sS15 d r).slice (Rect.unit (s := S15) off S1.size inb)).squeeze S_ squeezes_S1_S_).sem = dsem (.inl (k, d, .inl r)) := by
  subst h; exact semX_canon d r k
theorem semA_eq (d r b : Bool) (k : Fin 15) {off : Fin 2 → ℕ} {inb} (h : off = ![k.val, b2n b]) :
    (((sS15x2 d r).slice (Rect.unit (s := S15x2) off S1x1.size inb)).squeeze S_ squeezes_S1x1_S_).sem = dsem (.inl (k, d, .inr (b, r))) := by
  subst h; exact semA_canon d r b k

/-! ## What the copies move -/

/-- The credit of a copy of a block of `x`. -/
abbrev NX : ℕ := (sqx (slot (xbM false) 0)).view.dmaCredit
/-- The credit of a copy of a half of a partial sum. -/
abbrev NA : ℕ := (sqh (half (arM false) false 0)).view.dmaCredit

theorem NX_pos : 0 < NX := View.dmaCredit_pos _ (by decide)
theorem NA_pos : 0 < NA := View.dmaCredit_pos _ (by decide)

def kamt : Key → ℕ
  | .inl _ => 1
  | .inr (.inl (_, _, .inl _)) => NX
  | .inr (.inl (_, _, .inr _)) => NA
  | .inr (.inr _) => NA

theorem kamt_pos (k : Key) : 0 < kamt k := by
  rcases k with _ | ⟨_, _, _ | _⟩ | _
  · exact Nat.one_pos
  · exact NX_pos
  · exact NA_pos
  · exact NA_pos

/-- The contents of device `c`'s window on each input. -/
def xin (c : Dev nD) : S2x128x512.Idx → Elt F .f32 := (win0_0.blk (0 : Fin 1)).view.read (Elt F) ((s₀ m ρ).mem ((c : Thread nD τ).loc main_arg0))
def wq (c : Dev nD) : S512x512.Idx → Elt F .f32 := (win0_1.blk (0 : Fin 1)).view.read (Elt F) ((s₀ m ρ).mem ((c : Thread nD τ).loc main_arg1))
def wo (c : Dev nD) : S512x512.Idx → Elt F .f32 := (win0_2.blk (0 : Fin 1)).view.read (Elt F) ((s₀ m ρ).mem ((c : Thread nD τ).loc main_arg2))
def wk (c : Dev nD) : S512x512.Idx → Elt F .f32 := (win0_3.blk (0 : Fin 1)).view.read (Elt F) ((s₀ m ρ).mem ((c : Thread nD τ).loc main_arg3))
def wv (c : Dev nD) : S512x512.Idx → Elt F .f32 := (win0_4.blk (0 : Fin 1)).view.read (Elt F) ((s₀ m ρ).mem ((c : Thread nD τ).loc main_arg4))

abbrev XV (F : FTy → Type) [FloatOps F] := S1x128x512.Idx → Elt F .bf16
abbrev HV (F : FTy → Type) [FloatOps F] := S1x64x512.Idx → Elt F .bf16

/-- The block of the activations that is in slot `k` of device `c` in direction `d`. -/
def X (d : Bool) : ℕ → Dev nD → XV F
  | 0, c => bif d
      then k0_pay21 (fun i => xin m ρ c ((Rect.unit (s := S2x128x512) ![1, 0, 0] S1x128x512.size inb_S2x128x512_S1x128x512_1_0_0).emb i))
      else k0_pay20 (fun i => xin m ρ c ((Rect.unit (s := S2x128x512) ![0, 0, 0] S1x128x512.size inb_S2x128x512_S1x128x512_0_0_0).emb i))
  | k + 1, c => X d k (prv d c)

abbrev kbd : FVec F S512x1024 .bf16 := k0_pay24 k0_pay22 k0_pay23
abbrev vbd : FVec F S1024x512 .bf16 := k0_pay25

/-- Device `c`'s contribution to the block in its slot `k` of direction `d`. -/
def C (d : Bool) (k : ℕ) (c : Dev nD) : FVec F S128x512 .f32 :=
  bif d
    then k0_pay7 (k0_pay17 (wk m ρ c)) (k0_pay18 (wv m ρ c)) (k0_pay19 (wo m ρ c)) kbd vbd
      (k0_pay2 (X m ρ false k c) (X m ρ true k c)) (k0_pay3 (k0_pay16 (wq m ρ c)) (X m ρ false k c) (X m ρ true k c)) k0_pay4
    else k0_pay6 (k0_pay17 (wk m ρ c)) (k0_pay18 (wv m ρ c)) (k0_pay19 (wo m ρ c)) kbd vbd
      (k0_pay2 (X m ρ false k c) (X m ρ true k c)) (k0_pay3 (k0_pay16 (wq m ρ c)) (X m ρ false k c) (X m ρ true k c)) k0_pay4

/-- The partial sum that device `c` sends on from slot `k`: half `h` of direction `d`. -/
def A (d h : Bool) : ℕ → Dev nD → HV F
  | 0, c => bif h then k0_pay13 (C m ρ d 0 c) else k0_pay9 (C m ρ d 0 c)
  | k + 1, c => bif h then k0_pay12 (C m ρ d (k + 1) c) (A d h k (prv d c)) else k0_pay10 (C m ρ d (k + 1) c) (A d h k (prv d c))

/-- A half of a block without its leading axis. -/
abbrev flat (v : HV F) : S64x512.Idx → Elt F .bf16 := fun i => v (Shape.reshapeEquiv (squeezes_S1x64x512_S64x512).numel_eq i)

/-! ## Ownership of slots -/

/-- A memref owned at some contents. -/
def anyAt (c : Dev nD) {sp : Space} {sh : Shape} {e : EltTy} (M : Memref sig .tc sp sh e) : sProp 𝕄 :=
  iprop(∃ f, (M.view.loc (c : Thread nD τ) ↦[M.view.set]{fullShare} f))

instance anyAt_storable (c : Dev nD) {sp : Space} {sh : Shape} {e : EltTy} (M : Memref sig .tc sp sh e) :
    BI.Storable (upEmb : UEmb _ 𝕄) (anyAt (F := F) c M) := by unfold anyAt; infer_instance

/-- A memref owned at known contents. -/
abbrev at_ (c : Dev nD) {sp : Space} {sh : Shape} {e : EltTy} (M : Memref sig .tc sp sh e) (q : PosShare TreeShare) (v : sh.Idx → Elt F e) : sProp 𝕄 :=
  owns (c : Thread nD τ) M q v

theorem at_any (c : Dev nD) {sp : Space} {sh : Shape} {e : EltTy} (M : Memref sig .tc sp sh e) (v : sh.Idx → Elt F e) :
    (at_ c M fullShare v : sProp 𝕄) ⊢ anyAt c M := by
  unfold at_ owns anyAt; iintro ⟨%f, -, H⟩; iexists f; iexact H

theorem read_sqx (s : Memref sig .tc .vmem S1x128x512 .bf16) (f : s.view.ty.Contents (Elt F)) (v : XV F) :
    ((sqx s).view.read (Elt F) f = fun i => v (Shape.reshapeEquiv (squeezes_S1x128x512_S128x512).numel_eq i)) ↔ s.view.read (Elt F) f = v := by
  constructor
  · intro h; funext i
    have := congrFun h ((Shape.reshapeEquiv (squeezes_S1x128x512_S128x512).numel_eq).symm i)
    change s.view.read (Elt F) f ((Shape.reshapeEquiv (squeezes_S1x128x512_S128x512).numel_eq) _) = _ at this
    rwa [Equiv.apply_symm_apply] at this
  · intro h; funext i; exact congrFun h _

theorem read_sqh (s : Memref sig .tc .vmem S1x64x512 .bf16) (f : s.view.ty.Contents (Elt F)) (v : HV F) :
    ((sqh s).view.read (Elt F) f = flat v) ↔ s.view.read (Elt F) f = v := by
  constructor
  · intro h; funext i
    have := congrFun h ((Shape.reshapeEquiv (squeezes_S1x64x512_S64x512).numel_eq).symm i)
    change s.view.read (Elt F) f ((Shape.reshapeEquiv (squeezes_S1x64x512_S64x512).numel_eq) _)
      = v ((Shape.reshapeEquiv (squeezes_S1x64x512_S64x512).numel_eq) _) at this
    rwa [Equiv.apply_symm_apply] at this
  · intro h; funext i; exact congrFun h _

theorem at_sqx (c : Dev nD) (s : Memref sig .tc .vmem S1x128x512 .bf16) (q : PosShare TreeShare) (v : XV F) :
    (at_ c (sqx s) q (fun i => v (Shape.reshapeEquiv (squeezes_S1x128x512_S128x512).numel_eq i)) : sProp 𝕄) = at_ c s q v := by
  unfold at_ owns
  rw [show (sqx s).view.set = s.view.set from View.set_reshape _ _]
  exact congrArg _ (funext fun f => by rw [read_sqx s f v])

theorem at_sqh (c : Dev nD) (s : Memref sig .tc .vmem S1x64x512 .bf16) (q : PosShare TreeShare) (v : HV F) :
    (at_ c (sqh s) q (flat v) : sProp 𝕄) = at_ c s q v := by
  unfold at_ owns
  rw [show (sqh s).view.set = s.view.set from View.set_reshape _ _]
  exact congrArg _ (funext fun f => by rw [read_sqh s f v])

theorem any_sqx (c : Dev nD) (s : Memref sig .tc .vmem S1x128x512 .bf16) : (anyAt c (sqx s) : sProp 𝕄) = anyAt c s := by
  unfold anyAt; rw [show (sqx s).view.set = s.view.set from View.set_reshape _ _]
theorem any_sqh (c : Dev nD) (s : Memref sig .tc .vmem S1x64x512 .bf16) : (anyAt c (sqh s) : sProp 𝕄) = anyAt c s := by
  unfold anyAt; rw [show (sqh s).view.set = s.view.set from View.set_reshape _ _]

/-! ## The schedule -/

/-- The places on device `c` that the copies of direction `d` land in. -/
def landing (d : Bool) (c : Dev nD) : sProp 𝕄 :=
  iprop((bigSep Finset.univ fun j : Fin 15 => iprop(anyAt c (slot (xbM d) j.succ) ∗ anyAt c (half (arM d) false j.succ) ∗ anyAt c (half (arM d) true j.succ)))
    ∗ anyAt c (fhalf (finM d) false) ∗ anyAt c (fhalf (finM d) true))

instance landing_storable (d : Bool) (c : Dev nD) : BI.Storable (upEmb : UEmb _ 𝕄) (landing (F := F) d c) := by unfold landing; infer_instance

/-- What the payer of duty `b` hands over in cell `k` of device `c`. -/
def kpay (c : Dev nD) (b : Bool) : Key → sProp 𝕄
  | .inl _ => landing b (nxt b c)
  | .inr (.inl (j, d, .inl false)) => at_ c (slot (xbM d) j.castSucc) fullShare.left (X m ρ d j.val c)
  | .inr (.inl (j, d, .inl true)) => at_ c (slot (xbM d) j.succ) fullShare (X m ρ d (j.val + 1) c)
  | .inr (.inl (j, d, .inr (h, false))) => anyAt c (half (cbM d) h j.castSucc)
  | .inr (.inl (j, d, .inr (h, true))) => at_ c (half (arM d) h j.succ) fullShare (A m ρ d h j.val (prv d c))
  | .inr (.inr (d, h, false)) => anyAt c (half (cbM d) h 15)
  | .inr (.inr (d, h, true)) => at_ c (fhalf (finM d) h) fullShare (flat (A m ρ d h 15 (prv d c)))

instance kpay_storable (c : Dev nD) (b : Bool) (k : Key) : BI.Storable (upEmb : UEmb _ 𝕄) (kpay m ρ c b k) := by
  rcases k with _ | ⟨j, d, (_ | _) | ⟨h, _ | _⟩⟩ | ⟨d, h, _ | _⟩ <;> unfold kpay <;> infer_instance

def kduties : Key → Finset Bool
  | .inl _ => Finset.univ
  | .inr _ => {false}

/-- One round per cell: a barrier cell has a unit from each neighbour, every other cell the credit of its one copy. -/
def Rd : Rounds.Schedule (GSem nD τ sig) Bool 𝕄 where
  duties g r := if r = 0 ∧ g.1.2 = .tc then (keyOf g.2).elim ∅ kduties else ∅
  unitless _ := False
  amount g _ _ := (keyOf g.2).elim 1 kamt
  payload g _ b := (keyOf g.2).elim iprop(emp) (kpay m ρ g.1.1 b)
  amount_pos g _ _ _ := by
    cases keyOf g.2 with
    | none => exact Nat.one_pos
    | some k => exact kamt_pos k

instance Rd_payload_storable (g : GSem nD τ sig) (r : ℕ) (b : Bool) :
    BI.Storable (upEmb : UEmb _ 𝕄) ((Rd (F := F) m ρ).payload g r b) := by
  show BI.Storable upEmb ((keyOf g.2).elim iprop(emp) (kpay m ρ g.1.1 b))
  cases keyOf g.2 with
  | none => exact (inferInstance : BI.Storable upEmb (iprop(emp) : sProp 𝕄))
  | some k => exact kpay_storable m ρ _ _ k

theorem duties_key (c : Dev nD) (k : Key) : (Rd (F := F) m ρ).duties (kcell c k) 0 = kduties k := by
  dsimp only [Rd]; rw [if_pos ⟨rfl, rfl⟩, keyOf_csem]; rfl
theorem duties_later (g : GSem nD τ sig) : ∀ r, 1 ≤ r → (Rd (F := F) m ρ).duties g r = ∅ :=
  fun r hr => by dsimp only [Rd]; rw [if_neg fun h => by omega]
theorem amount_key (c : Dev nD) (k : Key) (b : Bool) : (Rd (F := F) m ρ).amount (kcell c k) 0 b = kamt k := by
  dsimp only [Rd]; rw [keyOf_csem]; rfl
theorem payload_key (c : Dev nD) (k : Key) (b : Bool) : (Rd (F := F) m ρ).payload (kcell c k) 0 b = kpay m ρ c b k := by
  dsimp only [Rd]; rw [keyOf_csem]; rfl
theorem expect_own (c : Dev nD) (k : OKey) : (Rd (F := F) m ρ).expect (kcell c (.inr k)) 0 = kamt (.inr k) := by
  unfold Schedule.expect Schedule.amountOf
  rw [duties_key, show kduties (.inr k) = {false} from rfl, Finset.sum_singleton, amount_key]
theorem expect_bar (c : Dev nD) : (Rd (F := F) m ρ).expect (kcell c kBar) 0 = 2 := by
  unfold Schedule.expect Schedule.amountOf
  rw [duties_key, Finset.sum_congr rfl fun b _ => amount_key m ρ c kBar b]; rfl
theorem rest_own (c : Dev nD) (k : OKey) :
    bigSep ((Rd (F := F) m ρ).duties (kcell c (.inr k)) 0 \ ∅) (fun b => (Rd (F := F) m ρ).payload (kcell c (.inr k)) 0 b) = kpay m ρ c false (.inr k) := by
  rw [Finset.sdiff_empty, duties_key, show kduties (.inr k) = {false} from rfl, bigSep_singleton, payload_key]
theorem rest_bar (c : Dev nD) :
    bigSep ((Rd (F := F) m ρ).duties (kcell c kBar) 0 \ ∅) (fun b => (Rd (F := F) m ρ).payload (kcell c kBar) 0 b)
      = iprop(landing false (nxt false c) ∗ landing true (nxt true c)) := by
  rw [Finset.sdiff_empty, duties_key, show kduties kBar = Finset.univ from rfl, bigSep_univ_eq_bigSepL [false, true] (by decide) (by decide),
    bigSepL_cons_cons, bigSepL_singleton, payload_key, payload_key]
  rfl

/-! ## What a device owes, and the levels -/

/-- A debt to cell `k` of device `c`. -/
abbrev ow1 (c : Dev nD) (k : Key) : CellTallies nD τ sig Unit := tallyAt (kcell c k) () (kamt k)

/-- The debt of the last copies, the first to be paid outermost. -/
def oFin (c : Dev nD) : CellTallies nD τ sig Unit :=
  0 + ow1 (nxt true c) (kF true true true) + ow1 (nxt false c) (kF false true true) + ow1 (nxt true c) (kF true false true) + ow1 (nxt false c) (kF false false true)
/-- The debt of trip `j` above a debt `O`. -/
def oStep (c : Dev nD) (j : Fin 15) (O : CellTallies nD τ sig Unit) : CellTallies nD τ sig Unit :=
  O + ow1 (nxt true c) (kA j true true true) + ow1 (nxt false c) (kA j false true true) + ow1 (nxt true c) (kA j true false true)
    + ow1 (nxt false c) (kA j false false true) + ow1 (nxt true c) (kX j true true) + ow1 (nxt false c) (kX j false true)
/-- The debt of the last `n` trips and the last copies. -/
def oN (c : Dev nD) : ℕ → CellTallies nD τ sig Unit
  | 0 => oFin c
  | n + 1 => oStep c ⟨14 - n, by omega⟩ (oN c n)
/-- The debt before trip `k`. -/
def oFrom (c : Dev nD) (k : ℕ) : CellTallies nD τ sig Unit := oN c (15 - k)
/-- The debt at launch. -/
def O₀ (c : Dev nD) : CellTallies nD τ sig Unit := oFrom c 0 + ow1 (nxt false c) kBar + ow1 (nxt true c) kBar

theorem oFrom_step (c : Dev nD) (j : Fin 15) : oFrom c j.val = oStep c j (oFrom c (j.val + 1)) := by
  unfold oFrom
  have h : 15 - j.val = (15 - (j.val + 1)) + 1 := by omega
  rw [h, oN]
  congr 1
  exact Fin.ext (by show 14 - (15 - (j.val + 1)) = j.val; omega)
theorem oFrom_end (c : Dev nD) : oFrom c 15 = oFin c := rfl

def klv : Key → ℕ
  | .inl _ => 1
  | .inr (.inl (j, _, .inl true)) => 2 * j.val + 2
  | .inr (.inl (j, _, .inr (_, true))) => 2 * j.val + 3
  | .inr (.inr (_, _, true)) => 33
  | _ => 0

def L (g : GSem nD τ sig) : Finset Unit := if g.1.2 = .tc then {()} else ∅
/-- Staging and sending cells are lowest, then the barrier, then the receiving cells in the order of the trips. -/
def lv (g : GSem nD τ sig) (_ : Unit) : ℕ := (keyOf g.2).elim 0 klv

theorem L_of_ne (g : GSem nD τ sig) (h : g.1.2 ≠ .tc) : L g = ∅ := if_neg h
theorem L_tc (c : Dev nD) (sm : SemLoc sig) : L ((c : Thread nD τ), sm) = {()} := if_pos rfl
theorem lv_key (c : Dev nD) (k : Key) (u : Unit) : lv (kcell c k) u = klv k := by unfold lv; rw [keyOf_csem]; rfl

/-- Every owed cell is above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.one {n : ℕ} (c : Dev nD) (k : Key) (h : n < klv k) : Above n (ow1 c k) := fun g u hp => by
  rw [tallyAt_apply] at hp
  by_cases hg : g = kcell c k ∧ u = ()
  · rw [hg.1, lv_key]; exact ⟨rfl, h⟩
  · rw [if_neg hg] at hp; exact absurd hp (Nat.lt_irrefl 0)
theorem Above.fin (c : Dev nD) {n : ℕ} (h : n < 33) : Above n (oFin c) := by
  unfold oFin
  exact ((((Above.zero n).add (.one _ (kF _ _ true) h)).add (.one _ (kF _ _ true) h)).add (.one _ (kF _ _ true) h)).add (.one _ (kF _ _ true) h)
theorem Above.step {n : ℕ} (c : Dev nD) (j : Fin 15) {O} (h : n < 2 * j.val + 2) (hO : Above n O) : Above n (oStep c j O) := by
  unfold oStep
  have h3 : n < 2 * j.val + 3 := by omega
  exact (((((hO.add (.one _ (kA j _ _ true) h3)).add (.one _ (kA j _ _ true) h3)).add (.one _ (kA j _ _ true) h3)).add (.one _ (kA j _ _ true) h3)).add
    (.one _ (kX j _ true) h)).add (.one _ (kX j _ true) h)
theorem Above.n {n : ℕ} (c : Dev nD) : ∀ k, k ≤ 15 → n < 2 * (15 - k) + 2 → Above n (oN c k)
  | 0, _, h => Above.fin c (by omega)
  | k + 1, hk, h => Above.step c _ (by show n < 2 * (14 - k) + 2; omega) (Above.n c k (by omega) (by omega))
theorem Above.from {n : ℕ} (c : Dev nD) (k : ℕ) (hk : k ≤ 15) (h : n < 2 * k + 2) : Above n (oFrom c k) :=
  Above.n c _ (by omega) (by omega)

theorem mayWait (c : Dev nD) (sm : SemLoc sig) {n : ℕ} (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hn)
    (fun g u hg => (hO g u hg).2)

end Cert.Ring
-- ==== Proof.Steps.lean ====
/-
One rule for each step of the kernel: a wait, a load, a store, a copy to a neighbour.
-/
module

public import proofs.«01_k».proof.Proof.Ring

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Key → ℕ)

/-- The invariants of all cells, that each has reached its round, and the levels. -/
def Env : sProp 𝕄 :=
  iprop((bigSep Finset.univ fun ck : Dev nD × Key => cellInv ER (Rd m ρ) (K ck) (kcell ck.1 ck.2))
    ∗ (bigSep Finset.univ fun ck : Dev nD × Key => reached ER (kcell ck.1 ck.2) 0) ∗ levAts L lv)

instance Env_persistent : BI.Persistent (Env m ρ K) := by unfold Env; infer_instance

theorem elim_key (Φ : Dev nD × Key → sProp 𝕄) (ck : Dev nD × Key) : (bigSep Finset.univ Φ) ⊢ Φ ck := bigSep_elim (Finset.mem_univ ck)

theorem env_inv (c : Dev nD) (k : Key) : Env m ρ K ⊢ cellInv ER (Rd m ρ) (K (c, k)) (kcell c k) := by
  unfold Env; iintro ⟨H, -, -⟩
  iapply (elim_key (fun ck => cellInv ER (Rd m ρ) (K ck) (kcell ck.1 ck.2)) (c, k)); iexact H
theorem env_reached (c : Dev nD) (k : Key) : Env m ρ K ⊢ reached ER (kcell c k) 0 := by
  unfold Env; iintro ⟨-, H, -⟩
  iapply (elim_key (fun ck => reached ER (kcell ck.1 ck.2) 0) (c, k)); iexact H
theorem env_lev : Env m ρ K ⊢ levAts L lv := by unfold Env; iintro ⟨-, -, H⟩; iexact H

theorem env_mayWait (c : Dev nD) (k : Key) {n : ℕ} (hn : klv k ≤ n) {O : CellTallies nD τ sig Unit} (hO : Above n O) :
    Env m ρ K ⊢ MayWait (c : Thread nD τ) (csem k) () O := by
  have h1 : lv ((c : Thread nD τ), csem k) () ≤ n := by rw [lv_key]; exact hn
  have h2 : (levAts L lv : sProp 𝕄) ⊢ MayWait (c : Thread nD τ) (csem k) () O := mayWait c (csem k) h1 hO
  exact (@env_lev F _ m ρ K).trans h2

/-- Device `c` owes `O`. -/
def ow (c : Dev nD) (O : CellTallies nD τ sig Unit) : sProp 𝕄 := iprop(∃ W, owes (c : Thread nD τ) O W)

/-- The position of device `c` in its cell `k` before its only round. -/
abbrev pos (c : Dev nD) (k : Key) : sProp 𝕄 := atPos ER (kcell c k) 0 ∅ 0
/-- The token of the only copy into cell `k` of device `c`. -/
abbrev tok (c : Dev nD) (k : Key) : sProp 𝕄 := dutyTok ER (kcell c k) 0 false
/-- The credit that cell `k` of device `c` waits for. -/
abbrev crd (c : Dev nD) (k : Key) : sProp 𝕄 := cred (tallyAt (kcell c k) () (kamt k))

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section
variable (c : Dev nD) {α : Type}

/-- A wait on a cell of the device's own: it gives what the payer handed over, and the semaphore back at zero. -/
theorem step_wait {Q : α → sProp 𝕄} (k : OKey) {n : ℕ} (hn : klv (.inr k) ≤ n) {O : CellTallies nD τ sig Unit} (hO : Above n O)
    {sem : DmaSem sig} (hsem : sem = dsem k) {sp sp' : Space} {s s' : Shape} {e e' : EltTy}
    {src : Memref sig .tc sp' s' e'} {dst : Memref sig .tc sp s e} {h₁ : src.view.WordExact} {h₂ : dst.view.WordExact}
    (hamt : dst.view.dmaCredit = kamt (.inr k)) {kk : PUnit → Prog (TpuEff nD τ sig (Elt F) Λ₀ .tc) α} :
    iprop(Env m ρ K ∗ ow c O ∗ pos c (.inr k) ∗ crd c (.inr k))
      ⊢ iprop(((ow c O ∗ semVal (kcell c (.inr k)) 0 ∗ kpay m ρ c false (.inr k)) -∗ WP c (kk ⟨⟩) Q)
          -∗ WP c (.op (.waitDma2 sem src dst h₁ h₂) kk) Q) := by
  subst hsem
  unfold ow
  iintro ⟨#HE, ⟨%W, HO⟩, Hat, Hc⟩
  ihave #HI := (env_inv m ρ K c (.inr k)) $$ HE
  iintro Hk
  iapply (Rounds.wp_wait_rest_token 𝒱₀ ER (Rd m ρ) (c : Thread nD τ) none (κ := K (c, .inr k)) (sm := csem (.inr k)) (k' := kamt (.inr k))
      (fun Kq => (wpE_waitDma2_eq 𝒱₀ (c : Thread nD τ) none Set.univ Kq).trans (by rw [hamt]; rfl)) (Set.mem_univ _) () (O := O) (W := W) (R := 0) (m := 0) (T := ∅)
      (by rw [Nat.zero_add, expect_own m ρ c k])) $$ [Hc HO Hat]
  · isplitr; · iexact HI
    isplitl [Hc]
    · iexact Hc
    isplitl [HO]; · iexact HO
    isplitr
    · iapply (env_mayWait m ρ K c (.inr k) hn hO); iexact HE
    iexact Hat
  iintro ⟨HO, Hat, -, Hpay⟩
  ihave Hp := (Entails.of_eq (rest_own m ρ c k)) $$ Hpay
  imod (Rounds.cell_close ER (Rd m ρ) (Set.mem_univ (K (c, .inr k))) (fun h => h) (R := 0 + 1) (duties_later m ρ (kcell c (.inr k)))) $$ [Hat] with Hz
  · isplitr; · iexact HI
    iexact Hat
  iapply Hk
  isplitl [HO]; · iexists _; iexact HO
  isplitl [Hz]; · iexact Hz
  iexact Hp

/-- A load from a rectangle owned at known contents gives them. -/
theorem step_load_rect {Q : α → sProp 𝕄} {sh : Shape} {e : EltTy} {M : Memref sig .tc .vmem sh e} {r : Rect sh} (hr : ∀ a, r.stride a = 1)
    {q : PosShare TreeShare} {v : r.shape.Idx → Elt F e} {hl} {kk : (r.shape.Idx → Elt F e) → Prog (TpuEff nD τ sig (Elt F) Λ₀ .tc) α} :
    (at_ c (M.slice r hr) q v : sProp 𝕄) ⊢ iprop((at_ c (M.slice r hr) q v -∗ WP c (kk v) Q) -∗ WP c (.op (.load M r.toLoadRect hl) kk) Q) := by
  unfold at_ owns
  iintro ⟨%f, %hf, H⟩
  iintro Hk
  iapply (wp_load 𝒱₀ (c : Thread nD τ) none Set.univ (m := M) (S := (M.slice r hr).view.set)
    (show M.view.setOn r.set ⊆ (M.view.slice r).set by rw [View.set_slice]; exact subset_of_eq rfl)) $$ H
  iintro H
  rw [View.readAt_rect, show (M.view.slice r).read (Elt F) f = v from hf]
  iapply Hk
  iexists f
  isplitr; · ipureintro; exact hf
  iexact H

/-- A load from a rectangle owned at some contents. -/
theorem step_load_rect_any {Q : α → sProp 𝕄} {sh : Shape} {e : EltTy} {M : Memref sig .tc .vmem sh e} {r : Rect sh} (hr : ∀ a, r.stride a = 1)
    {hl} {kk : (r.shape.Idx → Elt F e) → Prog (TpuEff nD τ sig (Elt F) Λ₀ .tc) α} :
    (anyAt c (M.slice r hr) : sProp 𝕄) ⊢ iprop((∀ v, anyAt c (M.slice r hr) -∗ WP c (kk v) Q) -∗ WP c (.op (.load M r.toLoadRect hl) kk) Q) := by
  unfold anyAt
  iintro ⟨%f, H⟩
  iintro Hk
  iapply (wp_load 𝒱₀ (c : Thread nD τ) none Set.univ (m := M) (S := (M.slice r hr).view.set)
    (show M.view.setOn r.set ⊆ (M.view.slice r).set by rw [View.set_slice]; exact subset_of_eq rfl)) $$ H
  iintro H
  iapply Hk
  iexists f
  iexact H

/-- A store over a rectangle owned at some contents. -/
theorem step_store_rect {Q : α → sProp 𝕄} {sh : Shape} {e : EltTy} {M : Memref sig .tc .vmem sh e} {r : Rect sh} (hr : ∀ a, r.stride a = 1)
    {w : r.shape.Idx → Elt F e} {hx hm} {kk : PUnit → Prog (TpuEff nD τ sig (Elt F) Λ₀ .tc) α} :
    (anyAt c (M.slice r hr) : sProp 𝕄)
      ⊢ iprop((at_ c (M.slice r hr) fullShare w -∗ WP c (kk ⟨⟩) Q) -∗ WP c (.op (.store M r w Finset.univ hx hm) kk) Q) := by
  unfold anyAt at_ owns
  iintro ⟨%f, H⟩
  iintro Hk
  iapply (wp_store 𝒱₀ (c : Thread nD τ) none Set.univ (m := M) (r := r) (Mk := Finset.univ) (S := (M.slice r hr).view.set)
    (subset_of_eq rfl)) $$ H
  iintro H
  iapply Hk
  iexists _
  isplitr
  rotate_left
  · iexact H
  · ipureintro; exact View.read_write_univ _ _

theorem at_intro {sp : Space} {sh : Shape} {e : EltTy} (M : Memref sig .tc sp sh e) (q : PosShare TreeShare) {v : sh.Idx → Elt F e}
    (f : M.view.ty.Contents (Elt F)) (hf : M.view.read (Elt F) f = v) :
    (M.view.loc (c : Thread nD τ) ↦[M.view.set]{q} f : sProp 𝕄) ⊢ at_ c M q v := by
  unfold at_ owns
  iintro H; iexists f
  isplitr; · ipureintro; exact hf
  iexact H

/-- A copy to the device `n`: the source at share `q`, any contents where it lands. -/
theorem step_send {Q : α → sProp 𝕄} (ks kr : OKey) {n n' : Dev nD} (hn : n' = n) {sh : Shape} {e : EltTy} {src dst : Memref sig .tc .vmem sh e} {q : PosShare TreeShare} {v : sh.Idx → Elt F e}
    {sS sR : DmaSem sig} (hsS : sS = dsem ks) (hsR : sR = dsem kr) (hks : dst.view.dmaCredit = kamt (.inr ks)) (hkr : dst.view.dmaCredit = kamt (.inr kr))
    (hpay₁ : (at_ c src q v : sProp 𝕄) ⊢ kpay m ρ c false (.inr ks)) (hpay₂ : (at_ n dst fullShare v : sProp 𝕄) ⊢ kpay m ρ n false (.inr kr))
    {hsc : dst.view.ref.isScScratch = false} {hsrc : src.view.WordExact} {hdst : dst.view.WordExact}
    {hsem : DmaTarget.Typed .vmem (.dma sR) (.remote (Dev.tc n' : Thread nD τ) dst (.dma sS) hsc)}
    {kk : PUnit → Prog (TpuEff nD τ sig (Elt F) Λ₀ .tc) α} (O : CellTallies nD τ sig Unit) :
    iprop(Env m ρ K ∗ ow c (O + ow1 n (.inr kr)) ∗ at_ c src q v ∗ anyAt n dst ∗ tok c (.inr ks) ∗ tok n (.inr kr))
      ⊢ iprop(((ow c O ∗ crd c (.inr ks)) -∗ WP c (kk ⟨⟩) Q)
          -∗ WP c (.op (.enqueueDma src (.remote (Dev.tc n' : Thread nD τ) dst (.dma sS) hsc) (.dma sR) hsrc hdst hsem) kk) Q) := by
  subst hsS hsR hn
  unfold ow anyAt
  iintro ⟨#HE, ⟨%W, HO⟩, Hs, ⟨%fd, Hd⟩, Ht, Ht'⟩
  ihave #HI := (env_inv m ρ K c (.inr ks)) $$ HE
  ihave #HI' := (env_inv m ρ K n' (.inr kr)) $$ HE
  ihave #HR := (env_reached m ρ K c (.inr ks)) $$ HE
  ihave #HR' := (env_reached m ρ K n' (.inr kr)) $$ HE
  iintro Hk
  ihave Hs := (show (at_ c src q v : sProp 𝕄) ⊢ iprop(∃ f, ⌜src.view.read (Elt F) f = v⌝ ∗ (src.view.loc (c : Thread nD τ) ↦[src.view.set]{q} f)) from .rfl) $$ Hs
  icases Hs with ⟨%fs, %hf, Hs⟩
  iapply (Rounds.wp_send_pointsTo 𝒱₀ ER (Rd m ρ) (c : Thread nD τ) none (κ₁ := K (c, .inr ks)) (κ₂ := K (n', .inr kr))
    (c' := (n' : Thread nD τ)) (r₁ := 0) (r₂ := 0) (d₁ := false) (d₂ := false) (q := q) (fs := fs) (fd := fd)
    (by rw [duties_key m ρ c (.inr ks)]; exact Finset.mem_singleton_self _)
    (by rw [duties_key m ρ n' (.inr kr)]; exact Finset.mem_singleton_self _)
    () () (dst.view.dmaCredit) rfl ((amount_key m ρ c (.inr ks) false).trans hks.symm) ((amount_key m ρ n' (.inr kr) false).trans hkr.symm) O
    (by rw [hkr]) (W := W)
    (by
      rw [payload_key m ρ c (.inr ks) false]
      exact BI.Entails.trans (at_intro c src q fs hf) hpay₁)
    (by
      rw [payload_key m ρ n' (.inr kr) false]
      exact BI.Entails.trans (at_intro n' dst fullShare _ (by rw [View.read_write_univ]; exact hf)) hpay₂)) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  iapply Hk
  isplitl [HO]; · iexists W; iexact HO
  rw [hks]; iexact Hc

end

end Cert.Ring
-- ==== Proof.Flow.lean ====
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Key → ℕ)

/-! ## What a copy needs, has in flight, and leaves -/

section
variable (c : Dev nD) (d h : Bool) (j : Fin 15)

/-- To wait for the copies of `x` of trip `j`. -/
def WX : sProp 𝕄 := iprop(pos c (kX j d false) ∗ pos c (kX j d true) ∗ crd c (kX j d true))
/-- To send `x` in trip `j`. -/
def SX : sProp 𝕄 := iprop(tok c (kX j d false) ∗ tok (nxt d c) (kX j d true) ∗ anyAt (nxt d c) (slot (xbM d) j.succ))
/-- The copies of `x` of trip `j` in flight. -/
def FX : sProp 𝕄 := iprop(WX c d j ∗ crd c (kX j d false) ∗ at_ c (slot (xbM d) j.castSucc) fullShare.right (X m ρ d j.val c))
/-- What the copies of `x` of trip `j` leave. -/
def DX : sProp 𝕄 := iprop(semVal (kcell c (kX j d false)) 0 ∗ semVal (kcell c (kX j d true)) 0 ∗ anyAt c (slot (xbM d) j.castSucc))

def WA : sProp 𝕄 := iprop(pos c (kA j d h false) ∗ pos c (kA j d h true) ∗ crd c (kA j d h true))
def SA : sProp 𝕄 := iprop(tok c (kA j d h false) ∗ tok (nxt d c) (kA j d h true) ∗ anyAt (nxt d c) (half (arM d) h j.succ))
def FA : sProp 𝕄 := iprop(WA c d h j ∗ crd c (kA j d h false))
def DA : sProp 𝕄 := iprop(semVal (kcell c (kA j d h false)) 0 ∗ semVal (kcell c (kA j d h true)) 0 ∗ anyAt c (half (arM d) h j.succ)
  ∗ anyAt c (half (cbM d) h j.castSucc))

def WF : sProp 𝕄 := iprop(pos c (kF d h false) ∗ pos c (kF d h true) ∗ crd c (kF d h true))
def SF : sProp 𝕄 := iprop(tok c (kF d h false) ∗ tok (nxt d c) (kF d h true) ∗ anyAt (nxt d c) (fhalf (finM d) h))
def FF : sProp 𝕄 := iprop(WF c d h ∗ crd c (kF d h false))

end

theorem at_split (c : Dev nD) {sp : Space} {sh : Shape} {e : EltTy} (M : Memref sig .tc sp sh e) (v : sh.Idx → Elt F e) :
    (at_ c M fullShare v : sProp 𝕄) ⊢ iprop(at_ c M fullShare.left v ∗ at_ c M fullShare.right v) := by
  unfold at_ owns
  iintro ⟨%f, %hf, H⟩
  ihave H := (pointsTo_share (PosShare.mem_left_op_right fullShare)).1 $$ H
  icases H with ⟨H1, H2⟩
  isplitl [H1]
  · iexists f
    isplitr; · ipureintro; exact hf
    iexact H1
  · iexists f
    isplitr; · ipureintro; exact hf
    iexact H2

theorem at_join (c : Dev nD) {sp : Space} {sh : Shape} {e : EltTy} (M : Memref sig .tc sp sh e) (v : sh.Idx → Elt F e) :
    iprop(at_ c M fullShare.left v ∗ at_ c M fullShare.right v) ⊢ (at_ c M fullShare v : sProp 𝕄) := by
  unfold at_ owns
  iintro ⟨⟨%f, %hf, H1⟩, ⟨%g, %hg, H2⟩⟩
  ihave %hag := (pointsTo_agree (ℓ := M.view.loc (c : Thread nD τ)) (f := f) (g := g) (I := M.view.set) (J := M.view.set)) $$ [H1 H2]
  · isplitl [H1] <;> iassumption
  ihave H2 := (Entails.of_eq (pointsTo_congr (f := g) (g := f) (fun i hi => ((hag i (Finset.mem_inter.mpr ⟨hi, hi⟩)).1).symm))) $$ H2
  iexists f
  isplitr; · ipureintro; exact hf
  iapply (pointsTo_share (PosShare.mem_left_op_right fullShare)).2
  isplitl [H1] <;> iassumption

/-- Every copy of a block has the credit of a block, and of a half that of a half. -/
theorem creditX (b : Memref sig .tc .vmem S128x512 .bf16) : b.view.dmaCredit = NX := rfl
theorem creditA (b : Memref sig .tc .vmem S64x512 .bf16) : b.view.dmaCredit = NA := rfl

/-! ## The steps of the run -/

section
variable (c : Dev nD) {α : Type}

/-- A finished program. -/
theorem step_ret {Q : α → sProp 𝕄} (a : α) : Q a ⊢ WP c (.ret a) Q := by
  show Q a ⊢ wp _ _ _ _ _
  rw [wp_ret]
  iintro H; imodintro; iexact H

/-- Trip `j` sends its block of `x` on. -/
theorem send_X {Q : α → sProp 𝕄} (d : Bool) (j : Fin 15) {n' : Dev nD} (hn : n' = nxt d c) {o1 o2 : Fin 3 → ℕ} {i1 i2} {sS sR : DmaSem sig}
    (ho1 : o1 = ![j.castSucc.val, 0, 0]) (ho2 : o2 = ![j.succ.val, 0, 0]) (hsS : sS = dsem (.inl (j, d, .inl false))) (hsR : sR = dsem (.inl (j, d, .inl true)))
    {hsc hsrc hdst hsem} {kk : PUnit → Prog (TpuEff nD τ sig (Elt F) Λ₀ .tc) α} (O : CellTallies nD τ sig Unit) :
    iprop(Env m ρ K ∗ ow c (O + ow1 (nxt d c) (kX j d true)) ∗ SX c d j ∗ WX c d j ∗ at_ c (slot (xbM d) j.castSucc) fullShare (X m ρ d j.val c))
      ⊢ iprop(((ow c O ∗ FX m ρ c d j) -∗ WP c (kk ⟨⟩) Q)
          -∗ WP c (.op (.enqueueDma (sqx ((xbM d).slice (Rect.unit (s := S16x128x512) o1 S1x128x512.size i1) (fun _ => rfl)))
              (.remote (Dev.tc n' : Thread nD τ) (sqx ((xbM d).slice (Rect.unit (s := S16x128x512) o2 S1x128x512.size i2) (fun _ => rfl))) (.dma sS) hsc)
              (.dma sR) hsrc hdst hsem) kk) Q) := by
  subst ho1 ho2
  unfold SX FX
  iintro ⟨#HE, HO, ⟨Ht, Ht', Hd⟩, HW, Hs⟩
  ihave Hs := (at_split c _ _) $$ Hs
  icases Hs with ⟨Hl, Hr⟩
  iintro Hk
  iapply (step_send m ρ K c (.inl (j, d, .inl false)) (.inl (j, d, .inl true)) (q := fullShare.left)
    (v := fun i => X m ρ d j.val c (Shape.reshapeEquiv (squeezes_S1x128x512_S128x512).numel_eq i)) hn hsS hsR (by cases d <;> rfl) (by cases d <;> rfl)
    (by rw [at_sqx]; exact .rfl)
    (by rw [at_sqx]; show _ ⊢ at_ (nxt d c) (slot (xbM d) j.succ) fullShare (X m ρ d (j.val + 1) (nxt d c)); rw [show X m ρ d (j.val + 1) (nxt d c) = X m ρ d j.val (prv d (nxt d c)) from rfl, show prv d (nxt d c) = c from prv_nxt d c]) O)
    $$ [HO Hl Hd Ht Ht']
  · isplitr; · iexact HE
    isplitl [HO]; · iexact HO
    isplitl [Hl]; · rw [at_sqx]; iexact Hl
    isplitl [Hd]; · rw [any_sqx]; iexact Hd
    isplitl [Ht] <;> iassumption
  iintro ⟨HO, Hc⟩
  iapply Hk
  isplitl [HO]; · iexact HO
  isplitl [HW]; · iexact HW
  isplitl [Hc]; · iexact Hc
  iexact Hr

/-- The copies of `x` of trip `j` are waited for. -/
theorem wait_X {Q : α → sProp 𝕄} (d : Bool) (j : Fin 15) {n : ℕ} (hl : 2 * j.val + 2 ≤ n) {O : CellTallies nD τ sig Unit} (hO : Above n O) {s1 s2 : DmaSem sig}
    (hs1 : s1 = dsem (.inl (j, d, .inl true))) (hs2 : s2 = dsem (.inl (j, d, .inl false)))
    {a1 b1 a2 b2 : Memref sig .tc .vmem S128x512 .bf16} {x1 y1 x2 y2}
    {kk : PUnit → Prog (TpuEff nD τ sig (Elt F) Λ₀ .tc) α} :
    iprop(Env m ρ K ∗ ow c O ∗ FX m ρ c d j)
      ⊢ iprop(((ow c O ∗ DX c d j ∗ at_ c (slot (xbM d) j.succ) fullShare (X m ρ d (j.val + 1) c)) -∗ WP c (kk ⟨⟩) Q)
          -∗ WP c (.op (.waitDma2 s1 a1 b1 x1 y1) fun _ => .op (.waitDma2 s2 a2 b2 x2 y2) kk) Q) := by
  unfold FX WX DX
  iintro ⟨#HE, HO, ⟨Hp, Hp', Hc'⟩, Hc, Hr⟩ Hk
  iapply (step_wait m ρ K c (.inl (j, d, .inl true)) (n := n) hl hO hs1 (creditX b1)) $$ [HO Hp' Hc']
  · isplitr; · iexact HE
    isplitl [HO]; · iexact HO
    isplitl [Hp'] <;> iassumption
  iintro ⟨HO, Hz', Hn⟩
  ihave Hn := (show kpay m ρ c false (kX j d true) ⊢ at_ c (slot (xbM d) j.succ) fullShare (X m ρ d (j.val + 1) c) from .rfl) $$ Hn
  iapply (step_wait m ρ K c (.inl (j, d, .inl false)) (n := n) (Nat.zero_le _) hO hs2 (creditX b2)) $$ [HO Hp Hc]
  · isplitr; · iexact HE
    isplitl [HO]; · iexact HO
    isplitl [Hp] <;> iassumption
  iintro ⟨HO, Hz, Hl⟩
  ihave Hl := (show kpay m ρ c false (kX j d false) ⊢ at_ c (slot (xbM d) j.castSucc) fullShare.left (X m ρ d j.val c) from .rfl) $$ Hl
  iapply Hk
  isplitl [HO]; · iexact HO
  isplitr [Hn]
  rotate_left
  · iexact Hn
  isplitl [Hz]; · iexact Hz
  isplitl [Hz']; · iexact Hz'
  iapply (at_any c _ (X m ρ d j.val c))
  iapply (at_join c _ _)
  isplitl [Hl]; · iexact Hl
  iexact Hr

/-- A load of a slot. -/
theorem load_slot {Q : α → sProp 𝕄} (M : Memref sig .tc .vmem S16x128x512 .bf16) (k : Fin 16) {o : Fin 3 → ℕ} {i} (ho : o = ![k.val, 0, 0]) {q : PosShare TreeShare} {v : XV F}
    {hl} {kk : XV F → Prog (TpuEff nD τ sig (Elt F) Λ₀ .tc) α} :
    (at_ c (slot M k) q v : sProp 𝕄)
      ⊢ iprop((at_ c (slot M k) q v -∗ WP c (kk v) Q) -∗ WP c (.op (.load M (Rect.unit (s := S16x128x512) o S1x128x512.size i).toLoadRect hl) kk) Q) := by
  subst ho; exact step_load_rect c (fun _ => rfl)

/-- A half of a partial sum is set at the ring's start. -/
theorem init_A {Q : α → sProp 𝕄} (M : Memref sig .tc .vmem S16x128x512 .bf16) (h : Bool) (k : Fin 16) {o o' : Fin 3 → ℕ} {i i'} (ho : o = ![k.val, row h, 0]) (ho' : o' = ![k.val, row h, 0])
    {w : HV F} {h1 h2 h3} {kk : PUnit → Prog (TpuEff nD τ sig (Elt F) Λ₀ .tc) α} :
    (anyAt c (half M h k) : sProp 𝕄)
      ⊢ iprop((at_ c (half M h k) fullShare w -∗ WP c (kk ⟨⟩) Q)
          -∗ WP c (.op (.load M (Rect.unit (s := S16x128x512) o S1x64x512.size i).toLoadRect h1) fun _ =>
              .op (.store M (Rect.unit (s := S16x128x512) o' S1x64x512.size i') w Finset.univ h2 h3) kk) Q) := by
  subst ho ho'
  iintro H Hk
  iapply (step_load_rect_any c (fun _ => rfl)) $$ H
  iintro %v H
  iapply (step_store_rect c (fun _ => rfl)) $$ H
  iexact Hk

/-- A half of a partial sum is received and added to. -/
theorem acc_A {Q : α → sProp 𝕄} (d h : Bool) (j : Fin 15) {n : ℕ} (hl : 2 * j.val + 3 ≤ n) {O : CellTallies nD τ sig Unit} (hO : Above n O) {s1 s2 : DmaSem sig}
    (hs1 : s1 = dsem (.inl (j, d, .inr (h, true)))) (hs2 : s2 = dsem (.inl (j, d, .inr (h, false))))
    {a1 b1 a2 b2 : Memref sig .tc .vmem S64x512 .bf16} {x1 y1 x2 y2}
    {o1 o2 o3 : Fin 3 → ℕ} {i1 i2 i3} (ho1 : o1 = ![j.succ.val, row h, 0]) (ho2 : o2 = ![j.succ.val, row h, 0]) (ho3 : o3 = ![j.succ.val, row h, 0])
    (f : HV F → HV F) {h1 h2 h3 h4} {kk : PUnit → Prog (TpuEff nD τ sig (Elt F) Λ₀ .tc) α} :
    iprop(Env m ρ K ∗ ow c O ∗ FA c d h j ∗ anyAt c (half (cbM d) h j.succ))
      ⊢ iprop(((ow c O ∗ DA c d h j ∗ at_ c (half (cbM d) h j.succ) fullShare (f (A m ρ d h j.val (prv d c)))) -∗ WP c (kk ⟨⟩) Q)
          -∗ WP c (.op (.waitDma2 s1 a1 b1 x1 y1) fun _ => .op (.waitDma2 s2 a2 b2 x2 y2) fun _ =>
              .op (.load (arM d) (Rect.unit (s := S16x128x512) o1 S1x64x512.size i1).toLoadRect h1) fun v =>
              .op (.load (cbM d) (Rect.unit (s := S16x128x512) o2 S1x64x512.size i2).toLoadRect h2) fun _ =>
              .op (.store (cbM d) (Rect.unit (s := S16x128x512) o3 S1x64x512.size i3) (f v) Finset.univ h3 h4) kk) Q) := by
  subst ho1
  unfold FA WA DA
  iintro ⟨#HE, HO, ⟨⟨Hp, Hp', Hc'⟩, Hc⟩, Hb⟩ Hk
  iapply (step_wait m ρ K c (.inl (j, d, .inr (h, true))) (n := n) hl hO hs1 (creditA b1)) $$ [HO Hp' Hc']
  · isplitr; · iexact HE
    isplitl [HO]; · iexact HO
    isplitl [Hp'] <;> iassumption
  iintro ⟨HO, Hz', Hn⟩
  iapply (step_wait m ρ K c (.inl (j, d, .inr (h, false))) (n := n) (Nat.zero_le _) hO hs2 (creditA b2)) $$ [HO Hp Hc]
  · isplitr; · iexact HE
    isplitl [HO]; · iexact HO
    isplitl [Hp] <;> iassumption
  iintro ⟨HO, Hz, Hl⟩
  ihave Hl := (show kpay m ρ c false (kA j d h false) ⊢ anyAt c (half (cbM d) h j.castSucc) from .rfl) $$ Hl
  ihave Hn := (show kpay m ρ c false (kA j d h true) ⊢ at_ c (half (arM d) h j.succ) fullShare (A m ρ d h j.val (prv d c)) from .rfl) $$ Hn
  iapply (step_load_rect c (M := arM d) (fun _ => rfl) (v := A m ρ d h j.val (prv d c))) $$ [Hn]
  · iexact Hn
  iintro Hn
  iapply (init_A c (cbM d) h j.succ ho2 ho3) $$ Hb
  iintro Hb
  iapply Hk
  isplitl [HO]; · iexact HO
  isplitr [Hb]
  rotate_left
  · iexact Hb
  isplitl [Hz]; · iexact Hz
  isplitl [Hz']; · iexact Hz'
  isplitl [Hn]
  · iapply (at_any c _ _); iexact Hn
  iexact Hl

/-- Trip `j` sends a half of its partial sum on. -/
theorem send_A {Q : α → sProp 𝕄} (d h : Bool) (j : Fin 15) {n' : Dev nD} (hn : n' = nxt d c) {o1 o2 : Fin 3 → ℕ} {i1 i2} {sS sR : DmaSem sig}
    (ho1 : o1 = ![j.castSucc.val, row h, 0]) (ho2 : o2 = ![j.succ.val, row h, 0]) (hsS : sS = dsem (.inl (j, d, .inr (h, false)))) (hsR : sR = dsem (.inl (j, d, .inr (h, true))))
    {hsc hsrc hdst hsem} {kk : PUnit → Prog (TpuEff nD τ sig (Elt F) Λ₀ .tc) α} (O : CellTallies nD τ sig Unit) :
    iprop(Env m ρ K ∗ ow c (O + ow1 (nxt d c) (kA j d h true)) ∗ SA c d h j ∗ WA c d h j ∗ at_ c (half (cbM d) h j.castSucc) fullShare (A m ρ d h j.val c))
      ⊢ iprop(((ow c O ∗ FA c d h j) -∗ WP c (kk ⟨⟩) Q)
          -∗ WP c (.op (.enqueueDma (sqh ((cbM d).slice (Rect.unit (s := S16x128x512) o1 S1x64x512.size i1) (fun _ => rfl)))
              (.remote (Dev.tc n' : Thread nD τ) (sqh ((arM d).slice (Rect.unit (s := S16x128x512) o2 S1x64x512.size i2) (fun _ => rfl))) (.dma sS) hsc)
              (.dma sR) hsrc hdst hsem) kk) Q) := by
  subst ho1 ho2
  unfold SA FA
  iintro ⟨#HE, HO, ⟨Ht, Ht', Hd⟩, HW, Hs⟩ Hk
  iapply (step_send m ρ K c (.inl (j, d, .inr (h, false))) (.inl (j, d, .inr (h, true))) (q := fullShare) (v := flat (A m ρ d h j.val c)) hn hsS hsR
    (by cases d <;> rfl) (by cases d <;> rfl)
    (by rw [at_sqh]; exact at_any c _ _)
    (by rw [at_sqh]; show _ ⊢ at_ (nxt d c) (half (arM d) h j.succ) fullShare (A m ρ d h j.val (prv d (nxt d c))); rw [show prv d (nxt d c) = c from prv_nxt d c]) O)
    $$ [HO Hs Hd Ht Ht']
  · isplitr; · iexact HE
    isplitl [HO]; · iexact HO
    isplitl [Hs]; · rw [at_sqh]; iexact Hs
    isplitl [Hd]; · rw [any_sqh]; iexact Hd
    isplitl [Ht] <;> iassumption
  iintro ⟨HO, Hc⟩
  iapply Hk
  isplitl [HO]; · iexact HO
  isplitl [HW]; · iexact HW
  iexact Hc

/-- The last partial sum goes home. -/
theorem send_F {Q : α → sProp 𝕄} (d h : Bool) {n' : Dev nD} (hn : n' = nxt d c) {o1 : Fin 3 → ℕ} {o2 : Fin 2 → ℕ} {i1 i2} {sS sR : DmaSem sig}
    (ho1 : o1 = ![15, row h, 0]) (ho2 : o2 = ![row h, 0]) (hsS : sS = dsem (.inr (d, h, false))) (hsR : sR = dsem (.inr (d, h, true)))
    {hsc hsrc hdst hsem} {kk : PUnit → Prog (TpuEff nD τ sig (Elt F) Λ₀ .tc) α} (O : CellTallies nD τ sig Unit) :
    iprop(Env m ρ K ∗ ow c (O + ow1 (nxt d c) (kF d h true)) ∗ SF c d h ∗ WF c d h ∗ at_ c (half (cbM d) h 15) fullShare (A m ρ d h 15 c))
      ⊢ iprop(((ow c O ∗ FF c d h) -∗ WP c (kk ⟨⟩) Q)
          -∗ WP c (.op (.enqueueDma (sqh ((cbM d).slice (Rect.unit (s := S16x128x512) o1 S1x64x512.size i1) (fun _ => rfl)))
              (.remote (Dev.tc n' : Thread nD τ) ((finM d).slice (Rect.unit (s := S128x512) o2 S64x512.size i2) (fun _ => rfl)) (.dma sS) hsc)
              (.dma sR) hsrc hdst hsem) kk) Q) := by
  subst ho1 ho2
  unfold SF FF
  iintro ⟨#HE, HO, ⟨Ht, Ht', Hd⟩, HW, Hs⟩ Hk
  iapply (step_send m ρ K c (.inr (d, h, false)) (.inr (d, h, true)) (q := fullShare) (v := flat (A m ρ d h 15 c)) hn hsS hsR
    (by cases d <;> rfl) (by cases d <;> rfl)
    (by rw [at_sqh]; exact at_any c _ _)
    (by show _ ⊢ at_ (nxt d c) (fhalf (finM d) h) fullShare (flat (A m ρ d h 15 (prv d (nxt d c)))); rw [show prv d (nxt d c) = c from prv_nxt d c]) O)
    $$ [HO Hs Hd Ht Ht']
  · isplitr; · iexact HE
    isplitl [HO]; · iexact HO
    isplitl [Hs]; · rw [at_sqh]; iexact Hs
    isplitl [Hd]; · iexact Hd
    isplitl [Ht] <;> iassumption
  iintro ⟨HO, Hc⟩
  iapply Hk
  isplitl [HO]; · iexact HO
  isplitl [HW]; · iexact HW
  iexact Hc

end

end Cert.Ring
-- ==== Proof.Trip.lean ====
module

public import proofs.«01_k».proof.Proof.Flow
public import Idealize.SL.BI.BigOpNat

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Key → ℕ)

/-! ## The places of trip `k`, behind -/

theorem off1_succ : ∀ t : Fin k0_t1_loop.trips, 0 < t.val → k0_off1 t = ![t.val - 1] := by decide +kernel
theorem off8_succ : ∀ t : Fin k0_t1_loop.trips, 0 < t.val → k0_off8 t = ![t.val - 1, 0] := by decide +kernel
theorem off15_succ : ∀ t : Fin k0_t1_loop.trips, 0 < t.val → k0_off15 t = ![t.val - 1, 0] := by decide +kernel
theorem off19_succ : ∀ t : Fin k0_t1_loop.trips, 0 < t.val → k0_off19 t = ![t.val - 1, 1] := by decide +kernel
theorem off26_succ : ∀ t : Fin k0_t1_loop.trips, 0 < t.val → k0_off26 t = ![t.val - 1, 1] := by decide +kernel

theorem cond_pos : ∀ t : Fin k0_t1_loop.trips, 0 < t.val → k0_cond1 t = 1#1 ∧ k0_cond2 t = 1#1 ∧ k0_cond4 t = 1#1 ∧ k0_cond6 t = 1#1 ∧ k0_cond8 t = 1#1 := by
  decide +kernel
theorem cond_zero : ∀ t : Fin k0_t1_loop.trips, t.val = 0 → ¬ k0_cond1 t = 1#1 ∧ ¬ k0_cond2 t = 1#1 ∧ ¬ k0_cond4 t = 1#1 ∧ ¬ k0_cond6 t = 1#1 ∧ ¬ k0_cond8 t = 1#1 := by
  decide +kernel
theorem word_zero : ∀ t : Fin k0_t1_loop.trips, t.val = 0 →
    Scalar.cmpi .ne (Scalar.extui (Scalar.cmpi .eq (Scf.iv 0#32 1#32 t) 0#32) : BitVec 32) 0#32 = 1#1 := by decide +kernel
theorem word_pos : ∀ t : Fin k0_t1_loop.trips, 0 < t.val →
    ¬ Scalar.cmpi .ne (Scalar.extui (Scalar.cmpi .eq (Scf.iv 0#32 1#32 t) 0#32) : BitVec 32) 0#32 = 1#1 := by decide +kernel

/-! ## What a trip takes and leaves -/

/-- One half of one direction of a trip to come: its copy's tokens, waits and the slot of its partial sum. -/
def TA (c : Dev nD) (d h : Bool) (j : Fin 15) : sProp 𝕄 := iprop(SA c d h j ∗ WA c d h j ∗ anyAt c (half (cbM d) h j.castSucc))
/-- A trip to come. -/
def Todo (c : Dev nD) (j : Fin 15) : sProp 𝕄 :=
  iprop((SX c false j ∗ WX c false j) ∗ (SX c true j ∗ WX c true j) ∗ TA c false false j ∗ TA c true false j ∗ TA c false true j ∗ TA c true true j)
/-- The copies of a trip in flight. -/
def Pend (c : Dev nD) (j : Fin 15) : sProp 𝕄 :=
  iprop(FX m ρ c false j ∗ FX m ρ c true j ∗ FA c false false j ∗ FA c true false j ∗ FA c false true j ∗ FA c true true j)
/-- A trip whose copies have been waited for. -/
def Done (c : Dev nD) (j : Fin 15) : sProp 𝕄 :=
  iprop(DX c false j ∗ DX c true j ∗ DA c false false j ∗ DA c true false j ∗ DA c false true j ∗ DA c true true j)

/-- The loop's body on device `c`. -/
abbrev tripBody (c : Dev nD) (v16 v26 : BitVec 32) : Fin k0_t1_loop.trips → Unit → Prog (TpuEff nD τ sig (Elt F) Λ₀ .tc) Unit :=
  k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v16 v26
    (k0_pay16 (wq m ρ c)) (k0_pay17 (wk m ρ c)) (k0_pay18 (wv m ρ c)) (k0_pay19 (wo m ρ c)) k0_pay22 k0_pay23

set_option maxHeartbeats 4000000 in
/-- The first trip. -/
theorem trip_zero (c : Dev nD) (v16 v26 : BitVec 32) (h : 0 < k0_t1_loop.trips) :
    iprop(Env m ρ K ∗ ow c (oFrom c 0) ∗ Todo c 0 ∗ at_ c (slot (xbM false) 0) fullShare (X m ρ false 0 c) ∗ at_ c (slot (xbM true) 0) fullShare (X m ρ true 0 c))
      ⊢ WP c (tripBody (F := F) m ρ c v16 v26 ⟨0, h⟩ ()) (fun _ => iprop(ow c (oFrom c 1) ∗ Pend m ρ c 0)) := by
  obtain ⟨h1, h2, h4, h6, h8⟩ := cond_zero ⟨0, h⟩ rfl
  have hw := word_zero ⟨0, h⟩ rfl
  unfold tripBody k0_t1_body
  simp only [k0_part2_eq_skeleton, k0_part3_eq_skeleton, k0_part4_eq_skeleton, k0_part5_eq_skeleton]
  unfold k0_part2_skel k0_part3_skel k0_part4_skel k0_part5_skel
  simp only [dif_neg h1, dif_neg h2, dif_neg h4, dif_neg h6, dif_neg h8, dif_pos hw, Prog.lift, Prog.bind_op, Prog.bind_ret, Prog.pure_eq_ret]
  rw [show oFrom c 0 = oStep c 0 (oFrom c 1) from oFrom_step c 0]
  unfold oStep Todo TA Pend
  iintro ⟨#HE, HO, ⟨⟨HSx0, HWx0⟩, ⟨HSx1, HWx1⟩, ⟨HSa00, HWa00, Hb00⟩, ⟨HSa10, HWa10, Hb10⟩, ⟨HSa01, HWa01, Hb01⟩, ⟨HSa11, HWa11, Hb11⟩⟩, Hx0, Hx1⟩
  iapply (send_X m ρ K c false (0 : Fin 15) (dev3_eq c) (k0_off6_eq _) (k0_off5_eq _) (semX_eq false false (0 : Fin 15) (k0_off4_eq _)) (semX_eq false true (0 : Fin 15) (k0_off4_eq _)) _) $$ [HO HSx0 HWx0 Hx0]
  · isplitr; · iexact HE
    isplitl [HO]; · iexact HO
    isplitl [HSx0]; · iexact HSx0
    isplitl [HWx0]; · iexact HWx0
    iexact Hx0
  iintro ⟨HO, HFx0⟩
  iapply (send_X m ρ K c true (0 : Fin 15) (dev4_eq c) (k0_off6_eq _) (k0_off5_eq _) (semX_eq true false (0 : Fin 15) (k0_off4_eq _)) (semX_eq true true (0 : Fin 15) (k0_off4_eq _)) _) $$ [HO HSx1 HWx1 Hx1]
  · isplitr; · iexact HE
    isplitl [HO]; · iexact HO
    isplitl [HSx1]; · iexact HSx1
    isplitl [HWx1]; · iexact HWx1
    iexact Hx1
  iintro ⟨HO, HFx1⟩
  unfold FX
  icases HFx0 with ⟨HWx0, Hcx0, Hx0⟩
  iapply (load_slot c (xbM false) ((0 : Fin 15)).castSucc (k0_off7_eq _)) $$ Hx0
  iintro Hx0
  icases HFx1 with ⟨HWx1, Hcx1, Hx1⟩
  iapply (load_slot c (xbM true) ((0 : Fin 15)).castSucc (k0_off7_eq _)) $$ Hx1
  iintro Hx1
  have e0 : k0_pay6 (k0_pay17 (wk m ρ c)) (k0_pay18 (wv m ρ c)) (k0_pay19 (wo m ρ c)) (k0_pay24 (F := F) k0_pay22 k0_pay23) k0_pay25
      (k0_pay2 (X m ρ false 0 c) (X m ρ true 0 c)) (k0_pay3 (k0_pay16 (wq m ρ c)) (X m ρ false 0 c) (X m ρ true 0 c)) k0_pay4 = C m ρ false 0 c := rfl
  have e1 : k0_pay7 (k0_pay17 (wk m ρ c)) (k0_pay18 (wv m ρ c)) (k0_pay19 (wo m ρ c)) (k0_pay24 (F := F) k0_pay22 k0_pay23) k0_pay25
      (k0_pay2 (X m ρ false 0 c) (X m ρ true 0 c)) (k0_pay3 (k0_pay16 (wq m ρ c)) (X m ρ false 0 c) (X m ρ true 0 c)) k0_pay4 = C m ρ true 0 c := rfl
  iapply (init_A c (cbM false) false (0 : Fin 15).castSucc rfl rfl (w := A m ρ false false 0 c)) $$ Hb00
  iintro Hb00
  iapply (send_A m ρ K c false false (0 : Fin 15) (dev5_eq c) (k0_off14_eq _) (k0_off13_eq _) (semA_eq false false false (0 : Fin 15) (k0_off12_eq _)) (semA_eq false true false (0 : Fin 15) (k0_off12_eq _)) _) $$ [HO HSa00 HWa00 Hb00]
  · isplitr; · iexact HE
    isplitl [HO]; · iexact HO
    isplitl [HSa00]; · iexact HSa00
    isplitl [HWa00]; · iexact HWa00
    iexact Hb00
  iintro ⟨HO, HFa00⟩
  iapply (init_A c (cbM true) false (0 : Fin 15).castSucc rfl rfl (w := A m ρ true false 0 c)) $$ Hb10
  iintro Hb10
  iapply (send_A m ρ K c true false (0 : Fin 15) (dev6_eq c) (k0_off14_eq _) (k0_off13_eq _) (semA_eq true false false (0 : Fin 15) (k0_off12_eq _)) (semA_eq true true false (0 : Fin 15) (k0_off12_eq _)) _) $$ [HO HSa10 HWa10 Hb10]
  · isplitr; · iexact HE
    isplitl [HO]; · iexact HO
    isplitl [HSa10]; · iexact HSa10
    isplitl [HWa10]; · iexact HWa10
    iexact Hb10
  iintro ⟨HO, HFa10⟩
  iapply (init_A c (cbM false) true (0 : Fin 15).castSucc rfl rfl (w := A m ρ false true 0 c)) $$ Hb01
  iintro Hb01
  iapply (send_A m ρ K c false true (0 : Fin 15) (dev7_eq c) (k0_off25_eq _) (k0_off24_eq _) (semA_eq false false true (0 : Fin 15) (k0_off23_eq _)) (semA_eq false true true (0 : Fin 15) (k0_off23_eq _)) _) $$ [HO HSa01 HWa01 Hb01]
  · isplitr; · iexact HE
    isplitl [HO]; · iexact HO
    isplitl [HSa01]; · iexact HSa01
    isplitl [HWa01]; · iexact HWa01
    iexact Hb01
  iintro ⟨HO, HFa01⟩
  iapply (init_A c (cbM true) true (0 : Fin 15).castSucc rfl rfl (w := A m ρ true true 0 c)) $$ Hb11
  iintro Hb11
  iapply (send_A m ρ K c true true (0 : Fin 15) (dev8_eq c) (k0_off25_eq _) (k0_off24_eq _) (semA_eq true false true (0 : Fin 15) (k0_off23_eq _)) (semA_eq true true true (0 : Fin 15) (k0_off23_eq _)) _) $$ [HO HSa11 HWa11 Hb11]
  · isplitr; · iexact HE
    isplitl [HO]; · iexact HO
    isplitl [HSa11]; · iexact HSa11
    isplitl [HWa11]; · iexact HWa11
    iexact Hb11
  iintro ⟨HO, HFa11⟩
  iapply (step_ret c ())
  isplitl [HO]; · iexact HO
  isplitl [HWx0 Hcx0 Hx0]
  · isplitl [HWx0]; · iexact HWx0
    isplitl [Hcx0]; · iexact Hcx0
    iexact Hx0
  isplitl [HWx1 Hcx1 Hx1]
  · isplitl [HWx1]; · iexact HWx1
    isplitl [Hcx1]; · iexact Hcx1
    iexact Hx1
  isplitl [HFa00]; · iexact HFa00
  isplitl [HFa10]; · iexact HFa10
  isplitl [HFa01]; · iexact HFa01
  iexact HFa11

set_option maxHeartbeats 4000000 in
/-- A later trip. -/
theorem trip_succ (c : Dev nD) (v16 v26 : BitVec 32) (n : ℕ) (hn : n + 1 < 15) (h : n + 1 < k0_t1_loop.trips) :
    iprop(Env m ρ K ∗ ow c (oFrom c (n + 1)) ∗ Todo c ⟨n + 1, hn⟩ ∗ Pend m ρ c ⟨n, by omega⟩)
      ⊢ WP c (tripBody (F := F) m ρ c v16 v26 ⟨n + 1, h⟩ ()) (fun _ => iprop(ow c (oFrom c (n + 1 + 1)) ∗ Pend m ρ c ⟨n + 1, hn⟩ ∗ Done c ⟨n, by omega⟩)) := by
  obtain ⟨h1, h2, h4, h6, h8⟩ := cond_pos ⟨n + 1, h⟩ (Nat.succ_pos n)
  have hw : ¬ Scalar.cmpi .ne (Scalar.extui (Scalar.cmpi .eq (Scf.iv 0#32 1#32 (n + 1)) 0#32) : BitVec 32) 0#32 = 1#1 := word_pos ⟨n + 1, h⟩ (Nat.succ_pos n)
  have l1 : Above (2 * n + 2) (oStep c ⟨n + 1, hn⟩ (oFrom c (n + 1 + 1))) :=
    Above.step c _ (show 2 * n + 2 < 2 * (n + 1) + 2 by omega) (Above.from c _ (by omega) (by omega))
  have a3 : 2 * n + 3 < 2 * (n + 1) + 3 := by omega
  have l2 : Above (2 * n + 3) (oFrom c (n + 1 + 1)) := Above.from c _ (by omega) (by omega)
  unfold tripBody k0_t1_body
  simp only [k0_part2_eq_skeleton, k0_part3_eq_skeleton, k0_part4_eq_skeleton, k0_part5_eq_skeleton]
  unfold k0_part2_skel k0_part3_skel k0_part4_skel k0_part5_skel
  simp only [dif_pos h1, dif_pos h2, dif_pos h4, dif_pos h6, dif_pos h8, dif_neg hw, k0_part1_eq_skeleton]
  unfold k0_part1_skel
  simp only [Prog.lift, Prog.bind_op, Prog.bind_ret, Prog.pure_eq_ret, dif_neg hw]
  rw [show oFrom c (n + 1) = oStep c ⟨n + 1, hn⟩ (oFrom c (n + 1 + 1)) from oFrom_step c ⟨n + 1, hn⟩]
  unfold Todo TA Pend Done
  iintro ⟨#HE, HO, ⟨⟨HSx0, HWx0⟩, ⟨HSx1, HWx1⟩, ⟨HSa00, HWa00, Hb00⟩, ⟨HSa10, HWa10, Hb10⟩, ⟨HSa01, HWa01, Hb01⟩, ⟨HSa11, HWa11, Hb11⟩⟩, HFx0, HFx1, HFa00, HFa10, HFa01, HFa11⟩
  iapply (wait_X m ρ K c false (⟨n, by omega⟩ : Fin 15) (Nat.le_refl _) l1 (semX_eq false true (⟨n, by omega⟩ : Fin 15) (off1_succ _ (Nat.succ_pos n))) (semX_eq false false (⟨n, by omega⟩ : Fin 15) (off1_succ _ (Nat.succ_pos n)))) $$ [HO HFx0]
  · isplitr; · iexact HE
    isplitl [HO] <;> iassumption
  iintro ⟨HO, HDx0, Hx0⟩
  iapply (wait_X m ρ K c true (⟨n, by omega⟩ : Fin 15) (Nat.le_refl _) l1 (semX_eq true true (⟨n, by omega⟩ : Fin 15) (off1_succ _ (Nat.succ_pos n))) (semX_eq true false (⟨n, by omega⟩ : Fin 15) (off1_succ _ (Nat.succ_pos n)))) $$ [HO HFx1]
  · isplitr; · iexact HE
    isplitl [HO] <;> iassumption
  iintro ⟨HO, HDx1, Hx1⟩
  unfold oStep
  iapply (send_X m ρ K c false (⟨n + 1, hn⟩ : Fin 15) (dev3_eq c) (k0_off6_eq _) (k0_off5_eq _) (semX_eq false false (⟨n + 1, hn⟩ : Fin 15) (k0_off4_eq _)) (semX_eq false true (⟨n + 1, hn⟩ : Fin 15) (k0_off4_eq _)) _) $$ [HO HSx0 HWx0 Hx0]
  · isplitr; · iexact HE
    isplitl [HO]; · iexact HO
    isplitl [HSx0]; · iexact HSx0
    isplitl [HWx0]; · iexact HWx0
    iexact Hx0
  iintro ⟨HO, HFx0⟩
  iapply (send_X m ρ K c true (⟨n + 1, hn⟩ : Fin 15) (dev4_eq c) (k0_off6_eq _) (k0_off5_eq _) (semX_eq true false (⟨n + 1, hn⟩ : Fin 15) (k0_off4_eq _)) (semX_eq true true (⟨n + 1, hn⟩ : Fin 15) (k0_off4_eq _)) _) $$ [HO HSx1 HWx1 Hx1]
  · isplitr; · iexact HE
    isplitl [HO]; · iexact HO
    isplitl [HSx1]; · iexact HSx1
    isplitl [HWx1]; · iexact HWx1
    iexact Hx1
  iintro ⟨HO, HFx1⟩
  unfold FX
  icases HFx0 with ⟨HWx0, Hcx0, Hx0⟩
  iapply (load_slot c (xbM false) ((⟨n + 1, hn⟩ : Fin 15)).castSucc (k0_off7_eq _)) $$ Hx0
  iintro Hx0
  icases HFx1 with ⟨HWx1, Hcx1, Hx1⟩
  iapply (load_slot c (xbM true) ((⟨n + 1, hn⟩ : Fin 15)).castSucc (k0_off7_eq _)) $$ Hx1
  iintro Hx1
  have e0 : k0_pay6 (k0_pay17 (wk m ρ c)) (k0_pay18 (wv m ρ c)) (k0_pay19 (wo m ρ c)) (k0_pay24 (F := F) k0_pay22 k0_pay23) k0_pay25
      (k0_pay2 (X m ρ false (n + 1) c) (X m ρ true (n + 1) c)) (k0_pay3 (k0_pay16 (wq m ρ c)) (X m ρ false (n + 1) c) (X m ρ true (n + 1) c)) k0_pay4 = C m ρ false (n + 1) c := rfl
  have e1 : k0_pay7 (k0_pay17 (wk m ρ c)) (k0_pay18 (wv m ρ c)) (k0_pay19 (wo m ρ c)) (k0_pay24 (F := F) k0_pay22 k0_pay23) k0_pay25
      (k0_pay2 (X m ρ false (n + 1) c) (X m ρ true (n + 1) c)) (k0_pay3 (k0_pay16 (wq m ρ c)) (X m ρ false (n + 1) c) (X m ρ true (n + 1) c)) k0_pay4 = C m ρ true (n + 1) c := rfl
  iapply (acc_A m ρ K c false false (⟨n, by omega⟩ : Fin 15) (Nat.le_refl _) ((((l2.add (.one _ (kA ⟨n + 1, hn⟩ _ _ true) a3)).add (.one _ (kA ⟨n + 1, hn⟩ _ _ true) a3)).add (.one _ (kA ⟨n + 1, hn⟩ _ _ true) a3)).add (.one _ (kA ⟨n + 1, hn⟩ _ _ true) a3)) (semA_eq false true false (⟨n, by omega⟩ : Fin 15) (off8_succ _ (Nat.succ_pos n))) (semA_eq false false false (⟨n, by omega⟩ : Fin 15) (off8_succ _ (Nat.succ_pos n)))
    (k0_off11_eq _) (k0_off11_eq _) (k0_off11_eq _) (fun v => k0_pay10 (C m ρ false (n + 1) c) v)) $$ [HO HFa00 Hb00]
  · isplitr; · iexact HE
    isplitl [HO]; · iexact HO
    isplitl [HFa00]; · iexact HFa00
    iexact Hb00
  iintro ⟨HO, HDa00, Hb00⟩
  iapply (send_A m ρ K c false false (⟨n + 1, hn⟩ : Fin 15) (dev5_eq c) (k0_off14_eq _) (k0_off13_eq _) (semA_eq false false false (⟨n + 1, hn⟩ : Fin 15) (k0_off12_eq _)) (semA_eq false true false (⟨n + 1, hn⟩ : Fin 15) (k0_off12_eq _)) _) $$ [HO HSa00 HWa00 Hb00]
  · isplitr; · iexact HE
    isplitl [HO]; · iexact HO
    isplitl [HSa00]; · iexact HSa00
    isplitl [HWa00]; · iexact HWa00
    iexact Hb00
  iintro ⟨HO, HFa00⟩
  iapply (acc_A m ρ K c true false (⟨n, by omega⟩ : Fin 15) (Nat.le_refl _) (((l2.add (.one _ (kA ⟨n + 1, hn⟩ _ _ true) a3)).add (.one _ (kA ⟨n + 1, hn⟩ _ _ true) a3)).add (.one _ (kA ⟨n + 1, hn⟩ _ _ true) a3)) (semA_eq true true false (⟨n, by omega⟩ : Fin 15) (off15_succ _ (Nat.succ_pos n))) (semA_eq true false false (⟨n, by omega⟩ : Fin 15) (off15_succ _ (Nat.succ_pos n)))
    (k0_off18_eq _) (k0_off18_eq _) (k0_off18_eq _) (fun v => k0_pay10 (C m ρ true (n + 1) c) v)) $$ [HO HFa10 Hb10]
  · isplitr; · iexact HE
    isplitl [HO]; · iexact HO
    isplitl [HFa10]; · iexact HFa10
    iexact Hb10
  iintro ⟨HO, HDa10, Hb10⟩
  iapply (send_A m ρ K c true false (⟨n + 1, hn⟩ : Fin 15) (dev6_eq c) (k0_off14_eq _) (k0_off13_eq _) (semA_eq true false false (⟨n + 1, hn⟩ : Fin 15) (k0_off12_eq _)) (semA_eq true true false (⟨n + 1, hn⟩ : Fin 15) (k0_off12_eq _)) _) $$ [HO HSa10 HWa10 Hb10]
  · isplitr; · iexact HE
    isplitl [HO]; · iexact HO
    isplitl [HSa10]; · iexact HSa10
    isplitl [HWa10]; · iexact HWa10
    iexact Hb10
  iintro ⟨HO, HFa10⟩
  iapply (acc_A m ρ K c false true (⟨n, by omega⟩ : Fin 15) (Nat.le_refl _) ((l2.add (.one _ (kA ⟨n + 1, hn⟩ _ _ true) a3)).add (.one _ (kA ⟨n + 1, hn⟩ _ _ true) a3)) (semA_eq false true true (⟨n, by omega⟩ : Fin 15) (off19_succ _ (Nat.succ_pos n))) (semA_eq false false true (⟨n, by omega⟩ : Fin 15) (off19_succ _ (Nat.succ_pos n)))
    (k0_off22_eq _) (k0_off22_eq _) (k0_off22_eq _) (fun v => k0_pay12 (C m ρ false (n + 1) c) v)) $$ [HO HFa01 Hb01]
  · isplitr; · iexact HE
    isplitl [HO]; · iexact HO
    isplitl [HFa01]; · iexact HFa01
    iexact Hb01
  iintro ⟨HO, HDa01, Hb01⟩
  iapply (send_A m ρ K c false true (⟨n + 1, hn⟩ : Fin 15) (dev7_eq c) (k0_off25_eq _) (k0_off24_eq _) (semA_eq false false true (⟨n + 1, hn⟩ : Fin 15) (k0_off23_eq _)) (semA_eq false true true (⟨n + 1, hn⟩ : Fin 15) (k0_off23_eq _)) _) $$ [HO HSa01 HWa01 Hb01]
  · isplitr; · iexact HE
    isplitl [HO]; · iexact HO
    isplitl [HSa01]; · iexact HSa01
    isplitl [HWa01]; · iexact HWa01
    iexact Hb01
  iintro ⟨HO, HFa01⟩
  iapply (acc_A m ρ K c true true (⟨n, by omega⟩ : Fin 15) (Nat.le_refl _) (l2.add (.one _ (kA ⟨n + 1, hn⟩ _ _ true) a3)) (semA_eq true true true (⟨n, by omega⟩ : Fin 15) (off26_succ _ (Nat.succ_pos n))) (semA_eq true false true (⟨n, by omega⟩ : Fin 15) (off26_succ _ (Nat.succ_pos n)))
    (k0_off29_eq _) (k0_off29_eq _) (k0_off29_eq _) (fun v => k0_pay14 (C m ρ true (n + 1) c) v)) $$ [HO HFa11 Hb11]
  · isplitr; · iexact HE
    isplitl [HO]; · iexact HO
    isplitl [HFa11]; · iexact HFa11
    iexact Hb11
  iintro ⟨HO, HDa11, Hb11⟩
  iapply (send_A m ρ K c true true (⟨n + 1, hn⟩ : Fin 15) (dev8_eq c) (k0_off25_eq _) (k0_off24_eq _) (semA_eq true false true (⟨n + 1, hn⟩ : Fin 15) (k0_off23_eq _)) (semA_eq true true true (⟨n + 1, hn⟩ : Fin 15) (k0_off23_eq _)) _) $$ [HO HSa11 HWa11 Hb11]
  · isplitr; · iexact HE
    isplitl [HO]; · iexact HO
    isplitl [HSa11]; · iexact HSa11
    isplitl [HWa11]; · iexact HWa11
    iexact Hb11
  iintro ⟨HO, HFa11⟩
  iapply (step_ret c ())
  isplitl [HO]; · iexact HO
  isplitl [HWx0 Hcx0 Hx0 HWx1 Hcx1 Hx1 HFa00 HFa10 HFa01 HFa11]
  · isplitl [HWx0 Hcx0 Hx0]
    · isplitl [HWx0]; · iexact HWx0
      isplitl [Hcx0]; · iexact Hcx0
      iexact Hx0
    isplitl [HWx1 Hcx1 Hx1]
    · isplitl [HWx1]; · iexact HWx1
      isplitl [Hcx1]; · iexact Hcx1
      iexact Hx1
    isplitl [HFa00]; · iexact HFa00
    isplitl [HFa10]; · iexact HFa10
    isplitl [HFa01]; · iexact HFa01
    iexact HFa11
  isplitl [HDx0]; · iexact HDx0
  isplitl [HDx1]; · iexact HDx1
  isplitl [HDa00]; · iexact HDa00
  isplitl [HDa10]; · iexact HDa10
  isplitl [HDa01]; · iexact HDa01
  iexact HDa11

/-! ## The loop -/

/-- The trip `n`, of fifteen. -/
def fi (n : ℕ) : Fin 15 := ⟨n % 15, Nat.mod_lt _ (by decide)⟩
theorem fi_of_lt {n : ℕ} (h : n < 15) : fi n = ⟨n, h⟩ := Fin.ext (Nat.mod_eq_of_lt h)

/-- What is in hand between trips: at first the device's own block in slot 0, later the last trip's copies in flight. -/
def Cur (c : Dev nD) : ℕ → sProp 𝕄
  | 0 => iprop(at_ c (slot (xbM false) 0) fullShare (X m ρ false 0 c) ∗ at_ c (slot (xbM true) 0) fullShare (X m ρ true 0 c))
  | n + 1 => Pend m ρ c (fi n)

theorem Cur_zero (c : Dev nD) : Cur m ρ c 0 = iprop(at_ c (slot (xbM false) 0) fullShare (X m ρ false 0 c) ∗ at_ c (slot (xbM true) 0) fullShare (X m ρ true 0 c)) := rfl
theorem Cur_succ (c : Dev nD) (n : ℕ) : Cur m ρ c (n + 1) = Pend m ρ c (fi n) := rfl

/-- The loop's invariant before trip `k`. -/
def Inv (c : Dev nD) (k : ℕ) : sProp 𝕄 :=
  iprop(ow c (oFrom c k) ∗ bigSep (Finset.Ico k 15) (fun n => Todo c (fi n)) ∗ bigSep (Finset.Ico 0 (k - 1)) (fun n => Done c (fi n)) ∗ Cur m ρ c k)

theorem trips_eq : k0_t1_loop.trips = 15 := by decide

/-- One trip keeps the invariant. -/
theorem trip_inv (c : Dev nD) (v16 v26 : BitVec 32) (k : Fin k0_t1_loop.trips) :
    iprop(Env m ρ K ∗ Inv m ρ c k.val) ⊢ WP c (tripBody (F := F) m ρ c v16 v26 k ()) (fun _ => iprop(Env m ρ K ∗ Inv m ρ c (k.val + 1))) := by
  obtain ⟨k, hk⟩ := k
  have hk' : k < 15 := trips_eq ▸ hk
  unfold Inv
  simp only []
  rw [bigSep_Ico_succ_bot (show k < 15 from hk')]
  obtain _ | n := k
  · rw [Cur_zero, Cur_succ, show fi 0 = 0 from rfl]
    iintro ⟨#HE, HO, ⟨HT, HTs⟩, HD, Hx0, Hx1⟩
    iapply (wp_wand_r frame (wpE defs₀ 𝒱₀ (c : Thread nD τ) none) Set.univ)
    isplitl [HO HT Hx0 Hx1]
    · iapply (trip_zero m ρ K c v16 v26 hk)
      isplitr; · iexact HE
      isplitl [HO]; · iexact HO
      isplitl [HT]; · iexact HT
      isplitl [Hx0] <;> iassumption
    iintro %u ⟨HO, HP⟩
    isplitr; · iexact HE
    isplitl [HO]; · iexact HO
    isplitl [HTs]; · iexact HTs
    isplitl [HD]; · iexact HD
    iexact HP
  · rw [Cur_succ, Cur_succ]
    iintro ⟨#HE, HO, ⟨HT, HTs⟩, HD, HP⟩
    rw [show n + 1 + 1 - 1 = n + 1 from rfl, bigSep_Ico_succ_top (Nat.zero_le n)]
    iapply (wp_wand_r frame (wpE defs₀ 𝒱₀ (c : Thread nD τ) none) Set.univ)
    isplitl [HO HT HP]
    · iapply (trip_succ m ρ K c v16 v26 n hk' hk)
      rw [← fi_of_lt hk', ← fi_of_lt (show n < 15 by omega)]
      isplitr; · iexact HE
      isplitl [HO]; · iexact HO
      isplitl [HT] <;> iassumption
    rw [← fi_of_lt hk', ← fi_of_lt (show n < 15 by omega)]
    iintro %u ⟨HO, HP, HD'⟩
    isplitr; · iexact HE
    isplitl [HO]; · iexact HO
    isplitl [HTs]; · iexact HTs
    isplitl [HD HD']
    · isplitl [HD']; · iexact HD'
      iexact HD
    iexact HP

/-- The whole loop. -/
theorem loop_run (c : Dev nD) (v16 v26 : BitVec 32) {β : Type} {kk : Unit → Prog (TpuEff nD τ sig (Elt F) Λ₀ .tc) β} {Q : β → sProp 𝕄} :
    iprop(Env m ρ K ∗ Inv m ρ c 0)
      ⊢ iprop((Inv m ρ c 15 -∗ WP c (kk ()) Q) -∗ WP c (Scf.Loop.for k0_t1_loop k0_t1_ok () (tripBody (F := F) m ρ c v16 v26) >>= kk) Q) := by
  iintro H Hk
  iapply (Scf.wp_for_bind _ _ _ k0_t1_loop.lb k0_t1_loop.ub k0_t1_loop.st k0_t1_ok () (tripBody (F := F) m ρ c v16 v26)
    (fun k _ => iprop(Env m ρ K ∗ Inv m ρ c k)) (fun k _ => trip_inv m ρ K c v16 v26 k)) $$ H
  iintro %u H
  rw [show Scf.trips k0_t1_loop.lb k0_t1_loop.ub k0_t1_loop.st = 15 from trips_eq]
  icases H with ⟨-, H⟩
  iapply Hk
  iexact H

end Cert.Ring
-- ==== Proof.Pieces.lean ====
module

public import proofs.«01_k».proof.Proof.Trip
public import Idealize.SL.ProofMode.BigOp

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Key → ℕ)

instance elt_nonempty (e : EltTy) : Nonempty (Elt F e) := inferInstance

/-! ## A buffer as a family of rectangles -/

section Family
variable {T : Type} [Fintype T] [DecidableEq T] {sp : Space} {sh : Shape} {e : EltTy} (M : Memref sig .tc sp sh e)
  (r : T → Rect sh) (hr : ∀ t a, (r t).stride a = 1) (key : sh.Idx → T) (hk : ∀ t y, y ∈ (r t).set ↔ key y = t)

include hk in
theorem fam_disj (t t' : T) (h : t ≠ t') : Disjoint (r t).set (r t').set :=
  Finset.disjoint_left.mpr fun y hy hy' => h (((hk t y).mp hy).symm.trans ((hk t' y).mp hy'))
include hk in
theorem fam_cov : (Finset.univ : Finset T).biUnion (fun t => (r t).set) = Finset.univ := by
  ext y; simp only [Finset.mem_biUnion, Finset.mem_univ, true_and, iff_true]
  exact ⟨key y, (hk _ y).mpr rfl⟩

theorem any_iff (c : Dev nD) {sh : Shape} (M : Memref sig .tc sp sh e) : (anyAt c M : sProp 𝕄) ⊢ iprop(∃ v, at_ c M fullShare v) := by
  unfold anyAt at_ owns
  iintro ⟨%f, H⟩
  iexists (M.view.read (Elt F) f)
  iexists f
  isplitr; · ipureintro; rfl
  iexact H

include hk in
/-- A buffer at any contents is its rectangles at any contents. -/
theorem any_split (c : Dev nD) : (anyAt c M : sProp 𝕄) ⊢ bigSep Finset.univ fun t => anyAt c (M.slice (r t) (hr t)) := by
  have h : ∀ f, (M.view.loc (c : Thread nD τ) ↦[M.view.set]{fullShare} f : sProp 𝕄) ⊢ bigSep Finset.univ fun t => anyAt c (M.slice (r t) (hr t)) := fun f => by
    rw [pointsTo_rects (c : Thread nD τ) M fullShare r hr (fam_disj r key hk) (fam_cov r key hk) f]
    exact bigSep_mono fun t _ => at_any c _ _
  unfold anyAt
  iintro ⟨%f, H⟩
  iapply (h f) $$ H

/-- The function on a shape that is `v t` on the rectangle `t`. -/
def glue {V : Type} [Nonempty V] (r : T → Rect sh) (v : (t : T) → (r t).shape.Idx → V) (y : sh.Idx) : V :=
  open Classical in
  if h : ∃ p : (t : T) × (r t).shape.Idx, (r p.1).emb p.2 = y then v h.choose.1 h.choose.2 else Classical.choice inferInstance

include hk in
theorem glue_emb {V : Type} [Nonempty V] (v : (t : T) → (r t).shape.Idx → V) (t : T) (j : (r t).shape.Idx) : glue r v ((r t).emb j) = v t j := by
  have hmem : ∀ t j, key ((r t).emb j) = t := fun t j => (hk t _).mp ((r t).map_emb_univ ▸ Finset.mem_map_of_mem _ (Finset.mem_univ j))
  have he : ∀ p : (t : T) × (r t).shape.Idx, (r p.1).emb p.2 = (r t).emb j → v p.1 p.2 = v t j := by
    rintro ⟨t', j'⟩ h
    obtain rfl : t' = t := by rw [← hmem t' j', ← hmem t j, h]
    rw [(r t').emb.injective h]
  unfold glue
  rw [dif_pos ⟨⟨t, j⟩, rfl⟩]
  exact he _ (Exists.choose_spec (p := fun p : (t : T) × (r t).shape.Idx => (r p.1).emb p.2 = (r t).emb j) ⟨⟨t, j⟩, rfl⟩)

include hk in
/-- A buffer's rectangles at known contents are the buffer at the contents glued from them. -/
theorem at_glue (c : Dev nD) (q : PosShare TreeShare) (v : (t : T) → (r t).shape.Idx → Elt F e) :
    (bigSep Finset.univ fun t => at_ c (M.slice (r t) (hr t)) q (v t)) ⊢ (at_ c M q (glue r v) : sProp 𝕄) := by
  have h : (bigSep Finset.univ fun t => at_ c (M.slice (r t) (hr t)) q (v t) : sProp 𝕄)
      = bigSep Finset.univ fun t => at_ c (M.slice (r t) (hr t)) q (fun j => glue r v ((r t).emb j)) :=
    bigSep_congr fun t _ => by rw [show (fun j => glue r v ((r t).emb j)) = v t from funext fun j => glue_emb r key hk v t j]
  rw [h]
  exact owns_of_rects (c : Thread nD τ) M q r hr (fam_disj r key hk) (fam_cov r key hk) (glue r v)

include hk in
/-- A buffer's rectangles at any contents are the buffer at some contents. -/
theorem any_join (c : Dev nD) : (bigSep Finset.univ fun t => anyAt c (M.slice (r t) (hr t))) ⊢ (anyAt c M : sProp 𝕄) := by
  have h1 : (bigSep Finset.univ fun t => anyAt c (M.slice (r t) (hr t)) : sProp 𝕄)
      ⊢ iprop(∃ v : (t : T) → ((r t).shape.Idx → Elt F e), bigSep Finset.univ fun t => at_ c (M.slice (r t) (hr t)) fullShare (v t)) :=
    (bigSep_mono fun t _ => any_iff c _).trans (bigSep_exists_pi _ _)
  have h2 : ∀ v : (t : T) → ((r t).shape.Idx → Elt F e), (bigSep Finset.univ fun t => at_ c (M.slice (r t) (hr t)) fullShare (v t) : sProp 𝕄) ⊢ anyAt c M :=
    fun v => (at_glue M r hr key hk c fullShare v).trans (at_any c _ _)
  exact h1.trans (by iintro ⟨%v, H⟩; iapply (h2 v) $$ H)

end Family

/-! ## The kernel's buffers in pieces -/

/-- The slot of an index. -/
def slotOf (y : S16x128x512.Idx) : Fin 16 := ⟨(y 0).val, (y 0).isLt⟩
/-- The slot and the half of an index. -/
def halfOf (y : S16x128x512.Idx) : Fin 16 × Bool := (⟨(y 0).val, (y 0).isLt⟩, decide (64 ≤ (y 1).val))

theorem slot_key (k : Fin 16) (y : S16x128x512.Idx) : y ∈ (Rect.unit (s := S16x128x512) ![k.val, 0, 0] S1x128x512.size (xinb k)).set ↔ slotOf y = k := by
  rw [Rect.mem_set_unit, Fin.forall_fin_succ, Fin.forall_fin_two]
  have h1 := (y 1).isLt; have h2 := (y 2).isLt
  change (y 1).val < 128 at h1; change (y 2).val < 512 at h2
  change (k.val ≤ (y 0).val ∧ (y 0).val < k.val + 1) ∧ (0 ≤ (y 1).val ∧ (y 1).val < 0 + 128) ∧ (0 ≤ (y 2).val ∧ (y 2).val < 0 + 512) ↔ _
  rw [Fin.ext_iff, show (slotOf y).val = (y 0).val from rfl]
  constructor <;> intro h <;> omega

theorem half_key (t : Fin 16 × Bool) (y : S16x128x512.Idx) :
    y ∈ (Rect.unit (s := S16x128x512) ![t.1.val, row t.2, 0] S1x64x512.size (hinb t.2 t.1)).set ↔ halfOf y = t := by
  obtain ⟨k, b⟩ := t
  rw [Rect.mem_set_unit, Fin.forall_fin_succ, Fin.forall_fin_two]
  have h1 := (y 1).isLt; have h2 := (y 2).isLt
  change (y 1).val < 128 at h1; change (y 2).val < 512 at h2
  have e : halfOf y = (k, b) ↔ ((y 0).val = k.val ∧ (64 ≤ (y 1).val ↔ b = true)) := by
    unfold halfOf
    rw [Prod.mk.injEq, Fin.ext_iff]
    cases b <;> simp
  rw [e]
  change (k.val ≤ (y 0).val ∧ (y 0).val < k.val + 1) ∧ (row b ≤ (y 1).val ∧ (y 1).val < row b + 64) ∧ (0 ≤ (y 2).val ∧ (y 2).val < 0 + 512) ↔ _
  cases b
  · simp only [row]; constructor <;> intro h <;> simp at h ⊢ <;> omega
  · simp only [row]; constructor <;> intro h <;> simp at h ⊢ <;> omega

theorem fhalf_key (b : Bool) (y : S128x512.Idx) :
    y ∈ (Rect.unit (s := S128x512) ![row b, 0] S64x512.size (finb b)).set ↔ decide (64 ≤ (y 0).val) = b := by
  rw [Rect.mem_set_unit, Fin.forall_fin_two]
  have h1 := (y 0).isLt; have h2 := (y 1).isLt
  change (y 0).val < 128 at h1; change (y 1).val < 512 at h2
  change (row b ≤ (y 0).val ∧ (y 0).val < row b + 64) ∧ (0 ≤ (y 1).val ∧ (y 1).val < 0 + 512) ↔ _
  cases b
  · simp only [row]; constructor <;> intro h <;> simp at h ⊢ <;> omega
  · simp only [row]; constructor <;> intro h <;> simp at h ⊢ <;> omega

theorem oinb : ∀ (b : Bool) (a : Fin 3), (![b2n b, 0, 0] : Fin 3 → ℕ) a + S1x128x512.size a ≤ S2x128x512.size a := by decide
theorem out_key (b : Bool) (y : S2x128x512.Idx) :
    y ∈ (Rect.unit (s := S2x128x512) ![b2n b, 0, 0] S1x128x512.size (oinb b)).set ↔ decide ((y 0).val = 1) = b := by
  rw [Rect.mem_set_unit, Fin.forall_fin_succ, Fin.forall_fin_two]
  have h0 := (y 0).isLt; have h1 := (y 1).isLt; have h2 := (y 2).isLt
  change (y 0).val < 2 at h0; change (y 1).val < 128 at h1; change (y 2).val < 512 at h2
  change (b2n b ≤ (y 0).val ∧ (y 0).val < b2n b + 1) ∧ (0 ≤ (y 1).val ∧ (y 1).val < 0 + 128) ∧ (0 ≤ (y 2).val ∧ (y 2).val < 0 + 512) ↔ _
  cases b
  · simp only [b2n]; constructor <;> intro h <;> simp at h ⊢ <;> omega
  · simp only [b2n]; constructor <;> intro h <;> simp at h ⊢ <;> omega

/-! ## Sums over slots -/

theorem bigSep_first (Φ : Fin 16 → sProp 𝕄) : bigSep Finset.univ Φ = iprop(Φ 0 ∗ bigSep Finset.univ fun j : Fin 15 => Φ j.succ) := by
  rw [Fin.univ_succ, Finset.cons_eq_insert, bigSep_insert (by simp), bigSep_map]; rfl
theorem bigSep_last (Φ : Fin 16 → sProp 𝕄) : bigSep Finset.univ Φ = iprop(Φ 15 ∗ bigSep Finset.univ fun j : Fin 15 => Φ j.castSucc) := by
  rw [Fin.univ_castSuccEmb, Finset.cons_eq_insert, bigSep_insert (by simp; exact fun x h => absurd (congrArg Fin.val h) (by have := x.isLt; simp; omega)), bigSep_map]; rfl
theorem bigSep_bool (Φ : Bool → sProp 𝕄) : bigSep Finset.univ Φ = iprop(Φ false ∗ Φ true) :=
  bigSep_univ_eq_bigSepL [false, true] (by decide) (by decide) Φ
theorem bigSep_fi (Φ : Fin 15 → sProp 𝕄) : bigSep Finset.univ Φ = bigSep (Finset.Ico 0 15) fun n => Φ (fi n) := by
  rw [show Finset.Ico 0 15 = (Finset.univ : Finset (Fin 15)).map Fin.valEmbedding from by ext n; simp [Fin.exists_iff], bigSep_map]
  exact bigSep_congr fun j _ => by rw [show fi (Fin.valEmbedding j) = j from fi_of_lt j.isLt]

/-- The twelve cells of one slot. -/
def six (Φ : OKey → sProp 𝕄) (j : Fin 15) : sProp 𝕄 :=
  iprop(((Φ (.inl (j, false, .inl false)) ∗ Φ (.inl (j, false, .inl true)))
      ∗ ((Φ (.inl (j, false, .inr (false, false))) ∗ Φ (.inl (j, false, .inr (false, true)))) ∗ (Φ (.inl (j, false, .inr (true, false))) ∗ Φ (.inl (j, false, .inr (true, true))))))
    ∗ ((Φ (.inl (j, true, .inl false)) ∗ Φ (.inl (j, true, .inl true)))
      ∗ ((Φ (.inl (j, true, .inr (false, false))) ∗ Φ (.inl (j, true, .inr (false, true)))) ∗ (Φ (.inl (j, true, .inr (true, false))) ∗ Φ (.inl (j, true, .inr (true, true)))))))
/-- The eight cells of the last copies. -/
def eight (Φ : OKey → sProp 𝕄) : sProp 𝕄 :=
  iprop(((Φ (.inr (false, false, false)) ∗ Φ (.inr (false, false, true))) ∗ (Φ (.inr (false, true, false)) ∗ Φ (.inr (false, true, true))))
    ∗ ((Φ (.inr (true, false, false)) ∗ Φ (.inr (true, false, true))) ∗ (Φ (.inr (true, true, false)) ∗ Φ (.inr (true, true, true)))))
theorem bigSep_okey (Φ : OKey → sProp 𝕄) : bigSep Finset.univ Φ = iprop(bigSep Finset.univ (six Φ) ∗ eight Φ) := by
  rw [bigSep_univ_sum, bigSep_univ_prod, bigSep_univ_prod]
  congr 1
  · refine bigSep_congr fun j _ => ?_
    rw [bigSep_univ_prod, bigSep_bool]
    simp only [bigSep_univ_sum, bigSep_univ_prod, bigSep_bool]
    rfl
  · simp only [bigSep_univ_prod, bigSep_bool]
    rfl

end Cert.Ring
-- ==== Proof.Region.lean ====
module

public import proofs.«01_k».proof.Proof.Pieces

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Key → ℕ)

/-! ## What a device holds of its cells -/

/-- The device whose cell `k` is paid by device `c`. -/
def peer (c : Dev nD) : OKey → Dev nD
  | .inl (_, d, .inl r) => bif r then nxt d c else c
  | .inl (_, d, .inr (_, r)) => bif r then nxt d c else c
  | .inr (d, _, r) => bif r then nxt d c else c
/-- Whether `k` is the cell of a copy's receiver. -/
def isRecv : OKey → Bool
  | .inl (_, _, .inl r) => r
  | .inl (_, _, .inr (_, r)) => r
  | .inr (_, _, r) => r
/-- What device `c` holds for the kind `k` of cell: its position, the token it pays with, and the credit of a receiver. -/
def own (c : Dev nD) (k : OKey) : sProp 𝕄 :=
  iprop(pos c (.inr k) ∗ tok (peer c k) (.inr k) ∗ (bif isRecv k then crd c (.inr k) else iprop(emp)))
/-- The cell `k` of device `c` is back at zero. -/
def zero (c : Dev nD) (k : OKey) : sProp 𝕄 := semVal (kcell c (.inr k)) 0

/-! ## The buffers of one direction -/

/-- The partial sums' slots of a direction, the last apart. -/
def cbPre (d : Bool) (c : Dev nD) : sProp 𝕄 :=
  iprop((bigSep Finset.univ fun j : Fin 15 => iprop(anyAt c (half (cbM d) false j.castSucc) ∗ anyAt c (half (cbM d) true j.castSucc)))
    ∗ anyAt c (half (cbM d) false 15) ∗ anyAt c (half (cbM d) true 15))
/-- The slots that nothing lands in. -/
def kept (d : Bool) (c : Dev nD) : sProp 𝕄 := iprop(anyAt c (half (arM d) false 0) ∗ anyAt c (half (arM d) true 0))
/-- The four buffers of a direction. -/
def bufs (d : Bool) (c : Dev nD) : sProp 𝕄 := iprop(anyAt c (xbM d) ∗ anyAt c (cbM d) ∗ anyAt c (arM d) ∗ anyAt c (finM d))
/-- What the copies of trip `j` leave of the buffers of a direction. -/
def left (d : Bool) (c : Dev nD) (j : Fin 15) : sProp 𝕄 :=
  iprop(anyAt c (slot (xbM d) j.castSucc) ∗ (anyAt c (half (arM d) false j.succ) ∗ anyAt c (half (arM d) true j.succ))
    ∗ (anyAt c (half (cbM d) false j.castSucc) ∗ anyAt c (half (cbM d) true j.castSucc)))

theorem slots_iff (c : Dev nD) (M : Memref sig .tc .vmem S16x128x512 .bf16) :
    (anyAt c M ⊢ (bigSep Finset.univ fun k : Fin 16 => anyAt c (slot M k) : sProp 𝕄)) ∧ ((bigSep Finset.univ fun k : Fin 16 => anyAt c (slot M k)) ⊢ (anyAt c M : sProp 𝕄)) :=
  ⟨any_split M _ (fun _ _ => rfl) slotOf slot_key c, any_join M _ (fun _ _ => rfl) slotOf slot_key c⟩
theorem halves_iff (c : Dev nD) (M : Memref sig .tc .vmem S16x128x512 .bf16) :
    (anyAt c M ⊢ (bigSep Finset.univ fun k : Fin 16 => iprop(anyAt c (half M false k) ∗ anyAt c (half M true k)) : sProp 𝕄))
      ∧ ((bigSep Finset.univ fun k : Fin 16 => iprop(anyAt c (half M false k) ∗ anyAt c (half M true k))) ⊢ (anyAt c M : sProp 𝕄)) := by
  have h : (bigSep Finset.univ fun k : Fin 16 => iprop(anyAt c (half M false k) ∗ anyAt c (half M true k)) : sProp 𝕄)
      = bigSep Finset.univ fun t : Fin 16 × Bool => anyAt c (half M t.2 t.1) := by
    rw [bigSep_univ_prod]; exact bigSep_congr fun k _ => by rw [bigSep_bool]
  rw [h]
  exact ⟨any_split M _ (fun _ _ => rfl) halfOf half_key c, any_join M _ (fun _ _ => rfl) halfOf half_key c⟩
theorem fhalves_split (c : Dev nD) (M : Memref sig .tc .vmem S128x512 .bf16) :
    anyAt c M ⊢ (iprop(anyAt c (fhalf M false) ∗ anyAt c (fhalf M true)) : sProp 𝕄) := by
  have h := any_split (F := F) M _ (fun _ _ => rfl) _ fhalf_key c
  rw [bigSep_bool] at h
  exact h

/-- The buffers of a direction, cut into what the neighbour's copies land in and what stays. -/
theorem bufs_split (d : Bool) (c : Dev nD) : bufs d c ⊢ (iprop(landing d c ∗ anyAt c (slot (xbM d) 0) ∗ kept d c ∗ cbPre d c) : sProp 𝕄) := by
  unfold bufs landing kept cbPre
  iintro ⟨Hx, Hc, Ha, Hf⟩
  ihave Hx := (slots_iff c _).1 $$ Hx
  ihave Hc := (halves_iff c _).1 $$ Hc
  ihave Ha := (halves_iff c _).1 $$ Ha
  ihave Hf := (fhalves_split c _) $$ Hf
  ihave Hx := (Entails.of_eq (bigSep_first _)) $$ Hx
  ihave Ha := (Entails.of_eq (bigSep_first _)) $$ Ha
  ihave Hc := (Entails.of_eq (bigSep_last _)) $$ Hc
  icases Hx with ⟨Hx0, Hx⟩
  icases Ha with ⟨Ha0, Ha⟩
  isplitl [Hx Ha Hf]
  · isplitl [Hx Ha]
    · iapply (Entails.of_eq (bigSep_sep' Finset.univ (fun j : Fin 15 => anyAt c (slot (xbM d) j.succ))
        (fun j : Fin 15 => iprop(anyAt c (half (arM d) false j.succ) ∗ anyAt c (half (arM d) true j.succ)))).symm)
      isplitl [Hx]; · iexact Hx
      iexact Ha
    iexact Hf
  isplitl [Hx0]; · iexact Hx0
  isplitl [Ha0]; · iexact Ha0
  icases Hc with ⟨Hc15, Hc⟩
  isplitl [Hc]; · iexact Hc
  iexact Hc15

/-- The buffers of a direction, put together again. -/
theorem bufs_join (d : Bool) (c : Dev nD) :
    iprop((bigSep Finset.univ (left d c)) ∗ anyAt c (slot (xbM d) 15) ∗ kept d c ∗ (anyAt c (half (cbM d) false 15) ∗ anyAt c (half (cbM d) true 15)) ∗ anyAt c (finM d))
      ⊢ (bufs d c : sProp 𝕄) := by
  have h : (bigSep Finset.univ (left d c) : sProp 𝕄) = iprop((bigSep Finset.univ fun j : Fin 15 => anyAt c (slot (xbM d) j.castSucc))
      ∗ (bigSep Finset.univ fun j : Fin 15 => iprop(anyAt c (half (arM d) false j.succ) ∗ anyAt c (half (arM d) true j.succ)))
      ∗ (bigSep Finset.univ fun j : Fin 15 => iprop(anyAt c (half (cbM d) false j.castSucc) ∗ anyAt c (half (cbM d) true j.castSucc)))) := by
    unfold left; rw [bigSep_sep', bigSep_sep']
  rw [h]
  unfold bufs kept
  iintro ⟨⟨Hx, Ha, Hc⟩, Hx15, Ha0, Hc15, Hf⟩
  isplitl [Hx Hx15]
  · iapply (slots_iff c _).2
    iapply (Entails.of_eq (bigSep_last _).symm)
    isplitl [Hx15] <;> iassumption
  isplitl [Hc Hc15]
  · iapply (halves_iff c _).2
    iapply (Entails.of_eq (bigSep_last _).symm)
    isplitl [Hc15] <;> iassumption
  isplitl [Ha Ha0]
  · iapply (halves_iff c _).2
    iapply (Entails.of_eq (bigSep_first _).symm)
    isplitl [Ha0] <;> iassumption
  iexact Hf

/-! ## The trips' shares -/

/-- What lands in trip `j` in a direction. -/
abbrev land (d : Bool) (c : Dev nD) (j : Fin 15) : sProp 𝕄 :=
  iprop(anyAt c (slot (xbM d) j.succ) ∗ anyAt c (half (arM d) false j.succ) ∗ anyAt c (half (arM d) true j.succ))
abbrev cbs (d : Bool) (c : Dev nD) (j : Fin 15) : sProp 𝕄 := iprop(anyAt c (half (cbM d) false j.castSucc) ∗ anyAt c (half (cbM d) true j.castSucc))

/-- One trip's tokens, waits and slots. -/
theorem todo_of (c : Dev nD) (j : Fin 15) :
    iprop(six (own c) j ∗ land false (nxt false c) j ∗ land true (nxt true c) j ∗ cbs false c j ∗ cbs true c j) ⊢ (Todo c j : sProp 𝕄) := by
  unfold six own Todo TA SX WX SA WA land
  simp only [isRecv, cond_true, cond_false]
  iintro ⟨⟨⟨⟨⟨p1, t1, e1⟩, ⟨p2, t2, e2⟩⟩, ⟨⟨p3, t3, e3⟩, ⟨p4, t4, e4⟩⟩, ⟨⟨p5, t5, e5⟩, ⟨p6, t6, e6⟩⟩⟩, ⟨⟨p7, t7, e7⟩, ⟨p8, t8, e8⟩⟩, ⟨⟨p9, t9, e9⟩, ⟨pa, ta, ea⟩⟩, ⟨⟨pb, tb, eb⟩, ⟨pc, tc, ec⟩⟩⟩, ⟨l1, l2, l3⟩, ⟨l4, l5, l6⟩, ⟨c1, c2⟩, ⟨c3, c4⟩⟩
  isplitl [p1 t1 p2 t2 e2 l1]
  · isplitl [t1 t2 l1]
    · isplitl [t1]; · iexact t1
      isplitl [t2]; · iexact t2
      iexact l1
    isplitl [p1]; · iexact p1
    isplitl [p2]; · iexact p2
    iexact e2
  isplitl [p7 t7 p8 t8 e8 l4]
  · isplitl [t7 t8 l4]
    · isplitl [t7]; · iexact t7
      isplitl [t8]; · iexact t8
      iexact l4
    isplitl [p7]; · iexact p7
    isplitl [p8]; · iexact p8
    iexact e8
  isplitl [p3 t3 p4 t4 e4 l2 c1]
  · isplitl [t3 t4 l2]
    · isplitl [t3]; · iexact t3
      isplitl [t4]; · iexact t4
      iexact l2
    isplitl [p3 p4 e4]
    · isplitl [p3]; · iexact p3
      isplitl [p4]; · iexact p4
      iexact e4
    iexact c1
  isplitl [p9 t9 pa ta ea l5 c3]
  · isplitl [t9 ta l5]
    · isplitl [t9]; · iexact t9
      isplitl [ta]; · iexact ta
      iexact l5
    isplitl [p9 pa ea]
    · isplitl [p9]; · iexact p9
      isplitl [pa]; · iexact pa
      iexact ea
    iexact c3
  isplitl [p5 t5 p6 t6 e6 l3 c2]
  · isplitl [t5 t6 l3]
    · isplitl [t5]; · iexact t5
      isplitl [t6]; · iexact t6
      iexact l3
    isplitl [p5 p6 e6]
    · isplitl [p5]; · iexact p5
      isplitl [p6]; · iexact p6
      iexact e6
    iexact c2
  isplitl [tb tc l6]
  · isplitl [tb]; · iexact tb
    isplitl [tc]; · iexact tc
    iexact l6
  isplitl [pb pc ec]
  · isplitl [pb]; · iexact pb
    isplitl [pc]; · iexact pc
    iexact ec
  iexact c4

/-- What the copies of the last partial sums need, in both directions and halves. -/
def Last (c : Dev nD) : sProp 𝕄 :=
  iprop((SF c false false ∗ WF c false false) ∗ (SF c true false ∗ WF c true false) ∗ (SF c false true ∗ WF c false true) ∗ (SF c true true ∗ WF c true true))

theorem last_of (c : Dev nD) :
    iprop(eight (own c) ∗ (anyAt (nxt false c) (fhalf (finM false) false) ∗ anyAt (nxt false c) (fhalf (finM false) true))
        ∗ (anyAt (nxt true c) (fhalf (finM true) false) ∗ anyAt (nxt true c) (fhalf (finM true) true)))
      ⊢ (Last c : sProp 𝕄) := by
  unfold eight own Last SF WF
  simp only [isRecv, cond_true, cond_false]
  iintro ⟨⟨⟨⟨⟨p1, t1, e1⟩, ⟨p2, t2, e2⟩⟩, ⟨⟨p3, t3, e3⟩, ⟨p4, t4, e4⟩⟩⟩, ⟨⟨p5, t5, e5⟩, ⟨p6, t6, e6⟩⟩, ⟨⟨p7, t7, e7⟩, ⟨p8, t8, e8⟩⟩⟩, ⟨l1, l2⟩, ⟨l3, l4⟩⟩
  isplitl [p1 t1 p2 t2 e2 l1]
  · isplitl [t1 t2 l1]
    · isplitl [t1]; · iexact t1
      isplitl [t2]; · iexact t2
      iexact l1
    isplitl [p1]; · iexact p1
    isplitl [p2]; · iexact p2
    iexact e2
  isplitl [p5 t5 p6 t6 e6 l3]
  · isplitl [t5 t6 l3]
    · isplitl [t5]; · iexact t5
      isplitl [t6]; · iexact t6
      iexact l3
    isplitl [p5]; · iexact p5
    isplitl [p6]; · iexact p6
    iexact e6
  isplitl [p3 t3 p4 t4 e4 l2]
  · isplitl [t3 t4 l2]
    · isplitl [t3]; · iexact t3
      isplitl [t4]; · iexact t4
      iexact l2
    isplitl [p3]; · iexact p3
    isplitl [p4]; · iexact p4
    iexact e4
  isplitl [t7 t8 l4]
  · isplitl [t7]; · iexact t7
    isplitl [t8]; · iexact t8
    iexact l4
  isplitl [p7]; · iexact p7
  isplitl [p8]; · iexact p8
  iexact e8

/-- The run's tokens, waits and slots, trip by trip. -/
theorem shares_split (c : Dev nD) :
    iprop((bigSep Finset.univ (own c)) ∗ landing false (nxt false c) ∗ landing true (nxt true c) ∗ cbPre false c ∗ cbPre true c)
      ⊢ (iprop((bigSep (Finset.Ico 0 15) fun n => Todo c (fi n)) ∗ Last c
          ∗ (anyAt c (half (cbM false) false 15) ∗ anyAt c (half (cbM false) true 15)) ∗ (anyAt c (half (cbM true) false 15) ∗ anyAt c (half (cbM true) true 15))) : sProp 𝕄) := by
  have h : (iprop(bigSep Finset.univ (six (own c)) ∗ bigSep Finset.univ (land false (nxt false c)) ∗ bigSep Finset.univ (land true (nxt true c))
      ∗ bigSep Finset.univ (cbs false c) ∗ bigSep Finset.univ (cbs true c)) : sProp 𝕄) ⊢ bigSep (Finset.Ico 0 15) fun n => Todo c (fi n) := by
    rw [← bigSep_fi (Todo c), ← bigSep_sep', ← bigSep_sep', ← bigSep_sep', ← bigSep_sep']
    exact bigSep_mono fun j _ => todo_of c j
  rw [bigSep_okey]
  unfold landing cbPre
  iintro ⟨⟨H6, H8⟩, ⟨L1, F1⟩, ⟨L2, F2⟩, ⟨C1, D1⟩, ⟨C2, D2⟩⟩
  isplitl [H6 L1 L2 C1 C2]
  · iapply h
    isplitl [H6]; · iexact H6
    isplitl [L1]; · iexact L1
    isplitl [L2]; · iexact L2
    isplitl [C1]; · iexact C1
    iexact C2
  isplitl [H8 F1 F2]
  · iapply (last_of c)
    isplitl [H8]; · iexact H8
    isplitl [F1] <;> iassumption
  isplitl [D1] <;> iassumption

/-- What a finished trip leaves: its cells at zero, and its slots. -/
theorem done_of (c : Dev nD) (j : Fin 15) : (Done c j : sProp 𝕄) ⊢ iprop(six (zero c) j ∗ left false c j ∗ left true c j) := by
  unfold six zero left Done DX DA
  iintro ⟨⟨z1, z2, x1⟩, ⟨z3, z4, x2⟩, ⟨z5, z6, a1, b1⟩, ⟨z7, z8, a2, b2⟩, ⟨z9, z10, a3, b3⟩, ⟨z11, z12, a4, b4⟩⟩
  isplitl [z1 z2 z3 z4 z5 z6 z7 z8 z9 z10 z11 z12]
  · isplitl [z1 z2 z5 z6 z9 z10]
    · isplitl [z1 z2]
      · isplitl [z1]; · iexact z1
        iexact z2
      isplitl [z5 z6]
      · isplitl [z5]; · iexact z5
        iexact z6
      isplitl [z9]; · iexact z9
      iexact z10
    isplitl [z3 z4]
    · isplitl [z3]; · iexact z3
      iexact z4
    isplitl [z7 z8]
    · isplitl [z7]; · iexact z7
      iexact z8
    isplitl [z11]; · iexact z11
    iexact z12
  isplitl [x1 a1 a3 b1 b3]
  · isplitl [x1]; · iexact x1
    isplitl [a1 a3]
    · isplitl [a1]; · iexact a1
      iexact a3
    isplitl [b1]; · iexact b1
    iexact b3
  isplitl [x2]; · iexact x2
  isplitl [a2 a4]
  · isplitl [a2]; · iexact a2
    iexact a4
  isplitl [b2]; · iexact b2
  iexact b4

/-- What all finished trips leave. -/
theorem shares_join (c : Dev nD) :
    (bigSep (Finset.Ico 0 15) (fun n => Done c (fi n)) : sProp 𝕄)
      ⊢ iprop(bigSep Finset.univ (six (zero c)) ∗ bigSep Finset.univ (left false c) ∗ bigSep Finset.univ (left true c)) := by
  rw [← bigSep_fi (Done c), ← bigSep_sep', ← bigSep_sep']
  exact bigSep_mono fun j _ => done_of c j

/-! ## The result -/

/-- What the last copies leave in the home buffer of a direction. -/
def finAt (d : Bool) (c : Dev nD) : S128x512.Idx → Elt F .bf16 :=
  haveI : Nonempty (Elt F .bf16) := elt_nonempty .bf16
  glue (fun b : Bool => Rect.unit (s := S128x512) ![row b, 0] S64x512.size (finb b)) fun b => flat (A m ρ d b 15 (prv d c))
/-- The result block. -/
def outAt (c : Dev nD) : S2x128x512.Idx → Elt F .f32 :=
  haveI : Nonempty (Elt F .f32) := elt_nonempty .f32
  glue (fun b : Bool => Rect.unit (s := S2x128x512) ![b2n b, 0, 0] S1x128x512.size (oinb b))
    fun b => bif b then k0_pay1 (finAt m ρ true c) else k0_pay40 (finAt m ρ false c)

theorem fin_join (d : Bool) (c : Dev nD) :
    iprop(at_ c (fhalf (finM d) false) fullShare (flat (A m ρ d false 15 (prv d c))) ∗ at_ c (fhalf (finM d) true) fullShare (flat (A m ρ d true 15 (prv d c))))
      ⊢ at_ c (finM d) fullShare (finAt m ρ d c) := by
  have h := at_glue (F := F) (finM d) _ (fun _ _ => rfl) _ fhalf_key c fullShare (fun b => flat (A m ρ d b 15 (prv d c)))
  rw [bigSep_bool] at h
  exact h

/-- The rows of a batch in the result. -/
abbrev oslot (b : Bool) : Memref sig .tc .vmem S1x128x512 .f32 :=
  (Memref.whole cc0_stg5_0).slice (Rect.unit (s := S2x128x512) ![b2n b, 0, 0] S1x128x512.size (oinb b)) (fun _ => rfl)
theorem out_split (c : Dev nD) : anyAt c (Memref.whole cc0_stg5_0) ⊢ (iprop(anyAt c (oslot false) ∗ anyAt c (oslot true)) : sProp 𝕄) := by
  have h := any_split (F := F) (Memref.whole cc0_stg5_0) _ (fun _ _ => rfl) _ out_key c
  rw [bigSep_bool] at h
  exact h
theorem out_join (c : Dev nD) :
    iprop(at_ c (oslot false) fullShare (k0_pay40 (finAt m ρ false c)) ∗ at_ c (oslot true) fullShare (k0_pay1 (finAt m ρ true c)))
      ⊢ at_ c (Memref.whole cc0_stg5_0) fullShare (outAt m ρ c) := by
  have h := at_glue (F := F) (Memref.whole cc0_stg5_0) _ (fun _ _ => rfl) _ out_key c fullShare
    (fun b => bif b then k0_pay1 (finAt m ρ true c) else k0_pay40 (finAt m ρ false c))
  rw [bigSep_bool] at h
  exact h

end Cert.Ring
-- ==== Proof.Body.lean ====
module

public import proofs.«01_k».proof.Proof.Region

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Key → ℕ)

/-! ## Loads of a whole buffer, and of a part of one -/

theorem emb_all {sh : Shape} {off : Fin sh.rank → ℕ} (ho : off = fun _ => 0) (inb) (i : sh.Idx) : (Rect.unit (s := sh) off sh.size inb).emb i = i := by
  subst ho
  funext a; apply Fin.ext
  rw [Rect.emb_apply]
  show 0 + 1 * (i a).val = (i a).val
  omega

section
variable (c : Dev nD) {α : Type}

/-- A load of a part of a buffer that is owned whole. -/
theorem step_load_sub {Q : α → sProp 𝕄} {sh : Shape} {e : EltTy} {M : Memref sig .tc .vmem sh e} {r : Rect sh}
    {q : PosShare TreeShare} {v : sh.Idx → Elt F e} {hl} {kk : (r.shape.Idx → Elt F e) → Prog (TpuEff nD τ sig (Elt F) Λ₀ .tc) α} :
    (at_ c M q v : sProp 𝕄) ⊢ iprop((at_ c M q v -∗ WP c (kk fun i => v (r.emb i)) Q) -∗ WP c (.op (.load M r.toLoadRect hl) kk) Q) := by
  unfold at_ owns
  iintro ⟨%f, %hf, H⟩
  iintro Hk
  iapply (wp_load 𝒱₀ (c : Thread nD τ) none Set.univ (m := M) (S := M.view.set)
    (show M.view.setOn r.toLoadRect.set ⊆ M.view.set from View.setOn_subset_set _ _)) $$ H
  iintro H
  rw [View.readAt_rect, show (M.view.slice r).read (Elt F) f = (fun i => v (r.emb i)) from by rw [← hf]; rfl]
  iapply Hk
  iexists f
  isplitr; · ipureintro; exact hf
  iexact H

/-- A load of a whole buffer. -/
theorem step_load_all {Q : α → sProp 𝕄} {sh : Shape} {e : EltTy} {M : Memref sig .tc .vmem sh e} {off : Fin sh.rank → ℕ} (ho : off = fun _ => 0) {inb}
    {q : PosShare TreeShare} {v : sh.Idx → Elt F e} {hl} {kk : (sh.Idx → Elt F e) → Prog (TpuEff nD τ sig (Elt F) Λ₀ .tc) α} :
    (at_ c M q v : sProp 𝕄) ⊢ iprop((at_ c M q v -∗ WP c (kk v) Q) -∗ WP c (.op (.load M (Rect.unit (s := sh) off sh.size inb).toLoadRect hl) kk) Q) := by
  have h := step_load_sub (F := F) (Q := Q) c (M := M) (r := Rect.unit (s := sh) off sh.size inb) (q := q) (v := v) (hl := hl) (kk := kk)
  rw [show (fun i => v ((Rect.unit (s := sh) off sh.size inb).emb i)) = v from funext fun i => congrArg v (emb_all ho inb i)] at h
  exact h

end

theorem z2 : (![0, 0] : Fin 2 → ℕ) = fun _ => 0 := funext fun a => by fin_cases a <;> rfl

/-! ## The kernel's body -/

/-- The staging buffers of the inputs at the device's blocks. -/
def ins (c : Dev nD) : sProp 𝕄 :=
  iprop(at_ c (Memref.whole cc0_stg0_0) fullShare (xin m ρ c) ∗ at_ c (Memref.whole cc0_stg1_0) fullShare (wq m ρ c) ∗ at_ c (Memref.whole cc0_stg2_0) fullShare (wo m ρ c)
    ∗ at_ c (Memref.whole cc0_stg3_0) fullShare (wk m ρ c) ∗ at_ c (Memref.whole cc0_stg4_0) fullShare (wv m ρ c))
/-- What the body starts from. -/
def begins (c : Dev nD) : sProp 𝕄 :=
  iprop(Env m ρ K ∗ ow c (O₀ c) ∗ (pos c kBar ∗ cred (tallyAt (kcell c kBar) () 2) ∗ dutyTok ER (kcell (nxt true c) kBar) 0 false ∗ dutyTok ER (kcell (nxt false c) kBar) 0 true)
    ∗ (bigSep Finset.univ (own c)) ∗ (bufs false c ∗ bufs true c) ∗ ins m ρ c ∗ anyAt c (Memref.whole cc0_stg5_0))
/-- What it ends with. -/
def ends (c : Dev nD) : sProp 𝕄 :=
  iprop(ow c 0 ∗ semVal (kcell c kBar) 0 ∗ (bigSep Finset.univ (zero c)) ∗ (bufs false c ∗ bufs true c) ∗ ins m ρ c ∗ at_ c (Memref.whole cc0_stg5_0) fullShare (outAt m ρ c))

theorem bar_duty (c : Dev nD) (b : Bool) : b ∈ (Rd (F := F) m ρ).duties (kcell c kBar) 0 := by
  rw [duties_key m ρ c kBar]; exact Finset.mem_univ _
/-- What a device hands to a neighbour's barrier. -/
theorem bar_pay (c : Dev nD) (b : Bool) : landing b c ⊢ (Rd (F := F) m ρ).payload (kcell (nxt (!b) c) kBar) 0 b := by
  rw [payload_key m ρ (nxt (!b) c) kBar b, show kpay m ρ (nxt (!b) c) b kBar = landing b (prv (!b) (nxt (!b) c)) from by
    show landing b (nxt b _) = landing b (nxt (!!b) _); rw [Bool.not_not], show prv (!b) (nxt (!b) c) = c from prv_nxt _ _]

/-- What the loop leaves. -/
theorem Inv_end (c : Dev nD) : Inv m ρ c 15 ⊢ iprop(ow c (oFin c) ∗ bigSep (Finset.Ico 0 14) (fun n => Done c (fi n)) ∗ Pend m ρ c 14) := by
  unfold Inv
  iintro ⟨HO, -, HD, HP⟩
  isplitl [HO]; · iexact HO
  isplitl [HD]; · iexact HD
  iapply (Entails.of_eq (show Cur m ρ c 15 = Pend m ρ c 14 from Cur_succ m ρ c 14)) $$ HP

/-- The arguments of the kernel's body. -/
abbrev theBody : Prog (TpuEff nD τ sig (Elt F) Λ₀ .tc) PUnit :=
  cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19

set_option maxHeartbeats 16000000 in
/-- The body, effect by effect. -/
theorem body_run (c : Dev nD) (Kt : PUnit → sProp 𝕄) :
    iprop(begins m ρ K c ∗ (ends m ρ c -∗ Kt ⟨⟩)) ⊢ WP c (theBody (F := F)) Kt := by
  unfold theBody
  rw [cc0_body_eq_skeleton]; unfold cc0_body_skel
  simp only [k0_part17_eq_skeleton]; unfold k0_part17_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part6_skel k0_part7_skel k0_part8_skel k0_part9_skel k0_part10_skel k0_part11_skel k0_part12_skel k0_part13_skel k0_part14_skel k0_part15_skel k0_part16_skel
  show _ ⊢ wp frame (wpE (defs₀ (F := F)) 𝒱₀ (c : Thread nD τ) none) Set.univ _ Kt
  simp only [semSignalWord, semWaitWord, Prog.lift, Prog.bind_op, Prog.bind_ret, Prog.pure_eq_ret, bind_assoc, wp_deviceId]
  simp only [dev1_eq c, dev2_eq c]
  unfold begins ins O₀
  iintro ⟨⟨#HE, HO, ⟨HpB, HcB, HtL, HtR⟩, Hown, ⟨HbR, HbL⟩, ⟨Hi0, Hi1, Hi2, Hi3, Hi4⟩, Hout⟩, Hk⟩
  ihave HbR := (bufs_split false c) $$ HbR
  icases HbR with ⟨HlR, HxR, HkR, HcR⟩
  ihave HbL := (bufs_split true c) $$ HbL
  icases HbL with ⟨HlL, HxL, HkL, HcL⟩
  ihave Hout := (out_split c) $$ Hout
  icases Hout with ⟨Ho0, Ho1⟩
  ihave #HIL := (env_inv m ρ K (nxt true c) kBar) $$ HE
  ihave #HIR := (env_inv m ρ K (nxt false c) kBar) $$ HE
  ihave #HIB := (env_inv m ρ K c kBar) $$ HE
  ihave #HrL := (env_reached m ρ K (nxt true c) kBar) $$ HE
  ihave #HrR := (env_reached m ρ K (nxt false c) kBar) $$ HE
  unfold ow
  icases HO with ⟨%W, HO⟩
  iapply (Rounds.wp_signal 𝒱₀ ER (Rd m ρ) (c : Thread nD τ) none (dst := (nxt true c : Thread nD τ)) (κ := K (nxt true c, kBar))
      (d := false) (bar_duty m ρ (nxt true c) false) ((amount_key m ρ (nxt true c) kBar false).trans (by decide)) () (oFrom c 0 + ow1 (nxt false c) kBar) rfl)
    $$ [HO HtL HlR]
  · isplitr; · iexact HIL
    isplitl [HO]; · iexact HO
    isplitl [HtL]; · iexact HtL
    isplitl [HlR]
    · iapply (show landing false c ⊢ (Rd m ρ).payload ((nxt true c : Thread nD τ), SemLoc.reg barS) 0 false from bar_pay m ρ c false); iexact HlR
    iexact HrL
  iintro HO
  iapply (Rounds.wp_signal 𝒱₀ ER (Rd m ρ) (c : Thread nD τ) none (dst := (nxt false c : Thread nD τ)) (κ := K (nxt false c, kBar))
      (d := true) (bar_duty m ρ (nxt false c) true) ((amount_key m ρ (nxt false c) kBar true).trans (by decide)) () (oFrom c 0) rfl)
    $$ [HO HtR HlL]
  · isplitr; · iexact HIR
    isplitl [HO]; · iexact HO
    isplitl [HtR]; · iexact HtR
    isplitl [HlL]
    · iapply (show landing true c ⊢ (Rd m ρ).payload ((nxt false c : Thread nD τ), SemLoc.reg barS) 0 true from bar_pay m ρ c true); iexact HlL
    iexact HrR
  iintro HO
  iapply (Rounds.wp_wait_rest_token 𝒱₀ ER (Rd m ρ) (c : Thread nD τ) none (κ := K (c, kBar))
      (wpE_semWait_eq 𝒱₀ (c : Thread nD τ) none Set.univ) (Set.mem_univ _) () (O := oFrom c 0) (W := W) (R := 0) (m := 0) (T := ∅)
      (show 0 + (2#32).toNat = (Rd m ρ).expect (kcell c kBar) 0 from by rw [expect_bar m ρ c]; decide)) $$ [HcB HO HpB]
  · isplitr; · iexact HIB
    isplitl [HcB]; · iexact HcB
    isplitl [HO]; · iexact HO
    isplitr
    · iapply (env_mayWait m ρ K c kBar (n := 1) (Nat.le_refl _) (Above.from c 0 (by decide) (by decide))); iexact HE
    iexact HpB
  iintro ⟨HO, HpB, -, Hpay⟩
  ihave HO := (show owes (c : Thread nD τ) (oFrom c 0) _ ⊢ ow c (oFrom c 0) from by unfold ow; iintro H; iexists _; iexact H) $$ HO
  ihave Hp := (show bigSep ((Rd m ρ).duties ((c : Thread nD τ), SemLoc.reg (SemArray.scalar (sig.barrier 0 rfl)).sem) 0 \ ∅)
      (fun b => (Rd m ρ).payload ((c : Thread nD τ), SemLoc.reg (SemArray.scalar (sig.barrier 0 rfl)).sem) 0 b) ⊢ iprop(landing false (nxt false c) ∗ landing true (nxt true c))
    from Entails.of_eq (rest_bar m ρ c)) $$ Hpay
  icases Hp with ⟨HnR, HnL⟩
  imod (Rounds.cell_close ER (Rd m ρ) (Set.mem_univ (K (c, kBar))) (fun h => h) (R := 0 + 1) (duties_later m ρ (kcell c kBar))) $$ [HpB] with HzB
  · isplitr; · iexact HIB
    iexact HpB
  iapply (step_load_all c (M := Memref.whole cc0_stg1_0) z2) $$ Hi1
  iintro Hi1
  iapply (step_load_all c (M := Memref.whole cc0_stg3_0) z2) $$ Hi3
  iintro Hi3
  iapply (step_load_all c (M := Memref.whole cc0_stg4_0) z2) $$ Hi4
  iintro Hi4
  iapply (step_load_all c (M := Memref.whole cc0_stg2_0) z2) $$ Hi2
  iintro Hi2
  iapply (step_load_sub c (M := Memref.whole cc0_stg0_0)) $$ Hi0
  iintro Hi0
  iapply (step_load_rect_any c (M := xbM false) (fun _ => rfl)) $$ [HxR]
  · iexact HxR
  iintro %v1 HxR
  iapply (step_store_rect c (M := xbM false) (fun _ => rfl)) $$ HxR
  iintro HxR
  iapply (step_load_sub c (M := Memref.whole cc0_stg0_0)) $$ Hi0
  iintro Hi0
  iapply (step_load_rect_any c (M := xbM true) (fun _ => rfl)) $$ [HxL]
  · iexact HxL
  iintro %v2 HxL
  iapply (step_store_rect c (M := xbM true) (fun _ => rfl)) $$ HxL
  iintro HxL
  ihave HT := (shares_split c) $$ [Hown HnR HnL HcR HcL]
  · isplitl [Hown]; · iexact Hown
    isplitl [HnR]; · iexact HnR
    isplitl [HnL]; · iexact HnL
    isplitl [HcR] <;> iassumption
  icases HT with ⟨HT, HL, ⟨Hb00, Hb01⟩, ⟨Hb10, Hb11⟩⟩
  iapply (loop_run m ρ K c _ _) $$ [HO HT HxR HxL]
  · isplitr; · iexact HE
    unfold Inv
    isplitl [HO]; · iexact HO
    isplitl [HT]; · iexact HT
    isplitr
    · rw [show Finset.Ico 0 (0 - 1) = ∅ from rfl, bigSep_empty]; iempintro
    rw [Cur_zero]
    isplitl [HxR]; · iexact HxR
    iexact HxL
  iintro HI
  ihave HI := (Inv_end m ρ c) $$ HI
  icases HI with ⟨HO, HD, HP⟩
  unfold Pend
  icases HP with ⟨HFx0, HFx1, HFa00, HFa10, HFa01, HFa11⟩
  iapply (wait_X m ρ K c false (14 : Fin 15) (n := 30) (Nat.le_refl _) (Above.fin c (by decide)) (semX_eq false true (14 : Fin 15) rfl) (semX_eq false false (14 : Fin 15) rfl)) $$ [HO HFx0]
  · isplitr; · iexact HE
    isplitl [HO] <;> iassumption
  iintro ⟨HO, HDx0, Hx0⟩
  iapply (wait_X m ρ K c true (14 : Fin 15) (n := 30) (Nat.le_refl _) (Above.fin c (by decide)) (semX_eq true true (14 : Fin 15) rfl) (semX_eq true false (14 : Fin 15) rfl)) $$ [HO HFx1]
  · isplitr; · iexact HE
    isplitl [HO] <;> iassumption
  iintro ⟨HO, HDx1, Hx1⟩
  iapply (load_slot c (xbM false) (14 : Fin 15).succ rfl) $$ Hx0
  iintro Hx0
  iapply (load_slot c (xbM true) (14 : Fin 15).succ rfl) $$ Hx1
  iintro Hx1
  unfold Last oFin
  icases HL with ⟨⟨HS00, HW00⟩, ⟨HS10, HW10⟩, ⟨HS01, HW01⟩, ⟨HS11, HW11⟩⟩
  have f33 : 31 < 33 := by decide
  iapply (acc_A m ρ K c false false (14 : Fin 15) (n := 31) (Nat.le_refl _) (((((Above.zero 31).add (.one _ (kF _ _ true) f33)).add (.one _ (kF _ _ true) f33)).add (.one _ (kF _ _ true) f33)).add (.one _ (kF _ _ true) f33)) (semA_eq false true false (14 : Fin 15) rfl) (semA_eq false false false (14 : Fin 15) rfl) rfl rfl rfl (fun v => k0_pay10 (C m ρ false 15 c) v)) $$ [HO HFa00 Hb00]
  · isplitr; · iexact HE
    isplitl [HO]; · iexact HO
    isplitl [HFa00]; · iexact HFa00
    iexact Hb00
  iintro ⟨HO, HDa00, Hb00⟩
  iapply (send_F m ρ K c false false (dev9_eq c) rfl rfl (semF_canon false false false) (semF_canon false true false) _) $$ [HO HS00 HW00 Hb00]
  · isplitr; · iexact HE
    isplitl [HO]; · iexact HO
    isplitl [HS00]; · iexact HS00
    isplitl [HW00]; · iexact HW00
    iexact Hb00
  iintro ⟨HO, HF00⟩
  iapply (acc_A m ρ K c true false (14 : Fin 15) (n := 31) (Nat.le_refl _) ((((Above.zero 31).add (.one _ (kF _ _ true) f33)).add (.one _ (kF _ _ true) f33)).add (.one _ (kF _ _ true) f33)) (semA_eq true true false (14 : Fin 15) rfl) (semA_eq true false false (14 : Fin 15) rfl) rfl rfl rfl (fun v => k0_pay10 (C m ρ true 15 c) v)) $$ [HO HFa10 Hb10]
  · isplitr; · iexact HE
    isplitl [HO]; · iexact HO
    isplitl [HFa10]; · iexact HFa10
    iexact Hb10
  iintro ⟨HO, HDa10, Hb10⟩
  iapply (send_F m ρ K c true false (dev10_eq c) rfl rfl (semF_canon true false false) (semF_canon true true false) _) $$ [HO HS10 HW10 Hb10]
  · isplitr; · iexact HE
    isplitl [HO]; · iexact HO
    isplitl [HS10]; · iexact HS10
    isplitl [HW10]; · iexact HW10
    iexact Hb10
  iintro ⟨HO, HF10⟩
  iapply (acc_A m ρ K c false true (14 : Fin 15) (n := 31) (Nat.le_refl _) (((Above.zero 31).add (.one _ (kF _ _ true) f33)).add (.one _ (kF _ _ true) f33)) (semA_eq false true true (14 : Fin 15) rfl) (semA_eq false false true (14 : Fin 15) rfl) rfl rfl rfl (fun v => k0_pay12 (C m ρ false 15 c) v)) $$ [HO HFa01 Hb01]
  · isplitr; · iexact HE
    isplitl [HO]; · iexact HO
    isplitl [HFa01]; · iexact HFa01
    iexact Hb01
  iintro ⟨HO, HDa01, Hb01⟩
  iapply (send_F m ρ K c false true (dev11_eq c) rfl rfl (semF_canon false false true) (semF_canon false true true) _) $$ [HO HS01 HW01 Hb01]
  · isplitr; · iexact HE
    isplitl [HO]; · iexact HO
    isplitl [HS01]; · iexact HS01
    isplitl [HW01]; · iexact HW01
    iexact Hb01
  iintro ⟨HO, HF01⟩
  iapply (acc_A m ρ K c true true (14 : Fin 15) (n := 31) (Nat.le_refl _) ((Above.zero 31).add (.one _ (kF _ _ true) f33)) (semA_eq true true true (14 : Fin 15) rfl) (semA_eq true false true (14 : Fin 15) rfl) rfl rfl rfl (fun v => k0_pay14 (C m ρ true 15 c) v)) $$ [HO HFa11 Hb11]
  · isplitr; · iexact HE
    isplitl [HO]; · iexact HO
    isplitl [HFa11]; · iexact HFa11
    iexact Hb11
  iintro ⟨HO, HDa11, Hb11⟩
  iapply (send_F m ρ K c true true (dev12_eq c) rfl rfl (semF_canon true false true) (semF_canon true true true) _) $$ [HO HS11 HW11 Hb11]
  · isplitr; · iexact HE
    isplitl [HO]; · iexact HO
    isplitl [HS11]; · iexact HS11
    isplitl [HW11]; · iexact HW11
    iexact Hb11
  iintro ⟨HO, HF11⟩
  unfold FF WF
  icases HF00 with ⟨⟨Hp00, Hq00, Hc00⟩, He00⟩
  icases HF10 with ⟨⟨Hp10, Hq10, Hc10⟩, He10⟩
  icases HF01 with ⟨⟨Hp01, Hq01, Hc01⟩, He01⟩
  icases HF11 with ⟨⟨Hp11, Hq11, Hc11⟩, He11⟩
  iapply (step_wait m ρ K c (.inr (false, false, false)) (n := 33) (by decide) (Above.zero 33) (semF_canon false false false) (creditA _)) $$ [HO Hp00 He00]
  · isplitr; · iexact HE
    isplitl [HO]; · iexact HO
    isplitl [Hp00] <;> iassumption
  iintro ⟨HO, Hz00, Hb00⟩
  ihave Hb00 := (show kpay m ρ c false (kF false false false) ⊢ anyAt c (half (cbM false) false 15) from .rfl) $$ Hb00
  iapply (step_wait m ρ K c (.inr (false, false, true)) (n := 33) (by decide) (Above.zero 33) (semF_canon false true false) (creditA _)) $$ [HO Hq00 Hc00]
  · isplitr; · iexact HE
    isplitl [HO]; · iexact HO
    isplitl [Hq00] <;> iassumption
  iintro ⟨HO, Hy00, Hf00⟩
  ihave Hf00 := (show kpay m ρ c false (kF false false true) ⊢ at_ c (fhalf (finM false) false) fullShare (flat (A m ρ false false 15 (prv false c))) from .rfl) $$ Hf00
  iapply (step_wait m ρ K c (.inr (true, false, false)) (n := 33) (by decide) (Above.zero 33) (semF_canon true false false) (creditA _)) $$ [HO Hp10 He10]
  · isplitr; · iexact HE
    isplitl [HO]; · iexact HO
    isplitl [Hp10] <;> iassumption
  iintro ⟨HO, Hz10, Hb10⟩
  ihave Hb10 := (show kpay m ρ c false (kF true false false) ⊢ anyAt c (half (cbM true) false 15) from .rfl) $$ Hb10
  iapply (step_wait m ρ K c (.inr (true, false, true)) (n := 33) (by decide) (Above.zero 33) (semF_canon true true false) (creditA _)) $$ [HO Hq10 Hc10]
  · isplitr; · iexact HE
    isplitl [HO]; · iexact HO
    isplitl [Hq10] <;> iassumption
  iintro ⟨HO, Hy10, Hf10⟩
  ihave Hf10 := (show kpay m ρ c false (kF true false true) ⊢ at_ c (fhalf (finM true) false) fullShare (flat (A m ρ true false 15 (prv true c))) from .rfl) $$ Hf10
  iapply (step_wait m ρ K c (.inr (false, true, false)) (n := 33) (by decide) (Above.zero 33) (semF_canon false false true) (creditA _)) $$ [HO Hp01 He01]
  · isplitr; · iexact HE
    isplitl [HO]; · iexact HO
    isplitl [Hp01] <;> iassumption
  iintro ⟨HO, Hz01, Hb01⟩
  ihave Hb01 := (show kpay m ρ c false (kF false true false) ⊢ anyAt c (half (cbM false) true 15) from .rfl) $$ Hb01
  iapply (step_wait m ρ K c (.inr (false, true, true)) (n := 33) (by decide) (Above.zero 33) (semF_canon false true true) (creditA _)) $$ [HO Hq01 Hc01]
  · isplitr; · iexact HE
    isplitl [HO]; · iexact HO
    isplitl [Hq01] <;> iassumption
  iintro ⟨HO, Hy01, Hf01⟩
  ihave Hf01 := (show kpay m ρ c false (kF false true true) ⊢ at_ c (fhalf (finM false) true) fullShare (flat (A m ρ false true 15 (prv false c))) from .rfl) $$ Hf01
  iapply (step_wait m ρ K c (.inr (true, true, false)) (n := 33) (by decide) (Above.zero 33) (semF_canon true false true) (creditA _)) $$ [HO Hp11 He11]
  · isplitr; · iexact HE
    isplitl [HO]; · iexact HO
    isplitl [Hp11] <;> iassumption
  iintro ⟨HO, Hz11, Hb11⟩
  ihave Hb11 := (show kpay m ρ c false (kF true true false) ⊢ anyAt c (half (cbM true) true 15) from .rfl) $$ Hb11
  iapply (step_wait m ρ K c (.inr (true, true, true)) (n := 33) (by decide) (Above.zero 33) (semF_canon true true true) (creditA _)) $$ [HO Hq11 Hc11]
  · isplitr; · iexact HE
    isplitl [HO]; · iexact HO
    isplitl [Hq11] <;> iassumption
  iintro ⟨HO, Hy11, Hf11⟩
  ihave Hf11 := (show kpay m ρ c false (kF true true true) ⊢ at_ c (fhalf (finM true) true) fullShare (flat (A m ρ true true 15 (prv true c))) from .rfl) $$ Hf11
  ihave Hf0 := (fin_join m ρ false c) $$ [Hf00 Hf01]
  · isplitl [Hf00] <;> iassumption
  ihave Hf1 := (fin_join m ρ true c) $$ [Hf10 Hf11]
  · isplitl [Hf10] <;> iassumption
  iapply (step_load_all c (M := finM false) z2) $$ Hf0
  iintro Hf0
  iapply (step_load_rect_any c (M := Memref.whole cc0_stg5_0) (fun _ => rfl)) $$ [Ho0]
  · iexact Ho0
  iintro %v3 Ho0
  iapply (step_store_rect c (M := Memref.whole cc0_stg5_0) (fun _ => rfl)) $$ Ho0
  iintro Ho0
  iapply (step_load_all c (M := finM true) z2) $$ Hf1
  iintro Hf1
  iapply (step_load_rect_any c (M := Memref.whole cc0_stg5_0) (fun _ => rfl)) $$ [Ho1]
  · iexact Ho1
  iintro %v4 Ho1
  iapply (step_store_rect c (M := Memref.whole cc0_stg5_0) (fun _ => rfl)) $$ Ho1
  iintro Ho1
  iapply (step_ret c ⟨⟩)
  iapply Hk
  unfold ends ins
  ihave HO' := (out_join m ρ c) $$ [Ho0 Ho1]
  · isplitl [Ho0] <;> iassumption
  ihave HD14 := (show iprop(DX c false 14 ∗ DX c true 14 ∗ DA c false false 14 ∗ DA c true false 14 ∗ DA c false true 14 ∗ DA c true true 14) ⊢ Done c (fi 14) from .rfl)
    $$ [HDx0 HDx1 HDa00 HDa10 HDa01 HDa11]
  · isplitl [HDx0]; · iexact HDx0
    isplitl [HDx1]; · iexact HDx1
    isplitl [HDa00]; · iexact HDa00
    isplitl [HDa10]; · iexact HDa10
    isplitl [HDa01]; · iexact HDa01
    iexact HDa11
  ihave HD := (Entails.of_eq (bigSep_Ico_succ_top (Nat.zero_le 14) (fun n => Done c (fi n))).symm) $$ [HD HD14]
  · isplitl [HD14] <;> iassumption
  ihave HD := (shares_join c) $$ HD
  icases HD with ⟨Hz, HlR, HlL⟩
  isplitl [HO]; · iexact HO
  isplitl [HzB]; · iexact HzB
  isplitl [Hz Hz00 Hy00 Hz01 Hy01 Hz10 Hy10 Hz11 Hy11]
  · rw [bigSep_okey]
    isplitl [Hz]; · iexact Hz
    unfold eight zero
    isplitl [Hz00 Hy00 Hz01 Hy01]
    · isplitl [Hz00 Hy00]
      · isplitl [Hz00]; · iexact Hz00
        iexact Hy00
      isplitl [Hz01]; · iexact Hz01
      iexact Hy01
    isplitl [Hz10 Hy10]
    · isplitl [Hz10]; · iexact Hz10
      iexact Hy10
    isplitl [Hz11]; · iexact Hz11
    iexact Hy11
  isplitl [HlR HlL Hx0 Hx1 HkR HkL Hb00 Hb01 Hb10 Hb11 Hf0 Hf1]
  · isplitl [HlR Hx0 HkR Hb00 Hb01 Hf0]
    · iapply (bufs_join false c)
      isplitl [HlR]; · iexact HlR
      isplitl [Hx0]; · iapply (at_any c _ (X m ρ false 15 c)); iexact Hx0
      isplitl [HkR]; · iexact HkR
      isplitl [Hb00 Hb01]; · isplitl [Hb00] <;> iassumption
      iapply (at_any c _ (finAt m ρ false c)); iexact Hf0
    iapply (bufs_join true c)
    isplitl [HlL]; · iexact HlL
    isplitl [Hx1]; · iapply (at_any c _ (X m ρ true 15 c)); iexact Hx1
    isplitl [HkL]; · iexact HkL
    isplitl [Hb10 Hb11]; · isplitl [Hb10] <;> iassumption
    iapply (at_any c _ (finAt m ρ true c)); iexact Hf1
  isplitl [Hi0 Hi1 Hi2 Hi3 Hi4]
  · isplitl [Hi0]; · iexact Hi0
    isplitl [Hi1]; · iexact Hi1
    isplitl [Hi2]; · iexact Hi2
    isplitl [Hi3]; · iexact Hi3
    iexact Hi4
  iexact HO'

end Cert.Ring
-- ==== Proof.Launch.lean ====
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Key → ℕ)

/-! ## Ghost state -/

/-- The duty tokens in the order of the cells: a barrier cell has two, every other cell one. -/
abbrev TKey := Bool ⊕ OKey
abbrev tokOf (ck : Dev nD × TKey) : GSem nD τ sig × ℕ × Bool :=
  match ck.2 with
  | .inl b => (kcell ck.1 kBar, 0, b)
  | .inr k => (kcell ck.1 (.inr k), 0, false)

theorem tokOf_injective : Function.Injective tokOf := by
  rintro ⟨c, j⟩ ⟨c', j'⟩ h
  have hc : ∀ {k k' : Key}, kcell c k = kcell c' k' → c = c' ∧ k = k' := fun {k k'} h =>
    Prod.ext_iff.mp (kcell_injective (a₁ := (c, k)) (a₂ := (c', k')) h)
  rcases j with b | k <;> rcases j' with b' | k'
  · obtain ⟨h1, -⟩ := hc (congrArg Prod.fst h)
    have h2 : b = b' := congrArg (fun x : GSem nD τ sig × ℕ × Bool => x.2.2) h
    rw [h1, h2]
  · obtain ⟨-, h1⟩ := hc (congrArg Prod.fst h); exact absurd h1 (by rintro ⟨⟩)
  · obtain ⟨-, h1⟩ := hc (congrArg Prod.fst h); exact absurd h1 (by rintro ⟨⟩)
  · obtain ⟨h1, h2⟩ := hc (congrArg Prod.fst h)
    rw [h1, Sum.inr.inj h2]

def theCells : Finset (GSem nD τ sig) := Finset.univ.map ⟨fun ck : Dev nD × Key => kcell ck.1 ck.2, kcell_injective⟩
def theToks : Finset (GSem nD τ sig × ℕ × Bool) := Finset.univ.map ⟨tokOf, tokOf_injective⟩

def u₀ : UU := (initOf (Pipeline.cells cfgs cellOf_inj) (Pipeline.launchToks cfgs cellOf_inj), initOf theCells theToks)

abbrev btok (c : Dev nD) (b : Bool) : sProp 𝕄 := dutyTok ER (kcell c kBar) 0 b

/-- The tokens of device `c`'s own cells. -/
def toks (c : Dev nD) : sProp 𝕄 := iprop((btok c false ∗ btok c true) ∗ bigSep Finset.univ fun k : OKey => tok c (.inr k))

/-- What the launch deals to device `c`. -/
def G (c : Dev nD) : sProp 𝕄 :=
  iprop((bigSep Finset.univ fun k : Key => roundState ER (Rd m ρ) (kcell c k) 0)
    ∗ ((bigSep Finset.univ fun k : Key => pos c k) ∗ bigSep Finset.univ fun k : Key => reached ER (kcell c k) 0) ∗ toks c)

theorem cells_eq (Φ : GSem nD τ sig → sProp 𝕄) :
    bigSep theCells Φ = bigSep Finset.univ fun c : Dev nD => bigSep Finset.univ fun k : Key => Φ (kcell c k) := by
  unfold theCells; rw [bigSep_map, bigSep_univ_prod]; rfl
theorem toks_eq : bigSep theToks (fun x => (dutyTok ER x.1 x.2.1 x.2.2 : sProp 𝕄)) = bigSep Finset.univ fun c : Dev nD => toks c := by
  unfold theToks; rw [bigSep_map, bigSep_univ_prod]
  exact bigSep_congr fun c _ => by unfold toks; rw [bigSep_univ_sum, bigSep_bool]; rfl

theorem fund_ring : BI.own (ER (initOf theCells theToks)) ⊢ (|==> bigSep Finset.univ (G m ρ) : sProp 𝕄) := by
  iintro HX
  imod (Rounds.fund ER (Rd m ρ) theCells theToks) $$ HX with ⟨Hst, Hr, Hat, Htok⟩
  imodintro
  ihave Hst := (Entails.of_eq (cells_eq fun g => roundState ER (Rd m ρ) g 0)) $$ Hst
  ihave Hat := (Entails.of_eq (cells_eq (F := F) fun g => atPos ER g 0 ∅ 0)) $$ Hat
  ihave Hr := (Entails.of_eq (cells_eq (F := F) fun g => reached ER g 0)) $$ Hr
  ihave Htok := (Entails.of_eq (toks_eq (F := F))) $$ Htok
  unfold G; simp only [bigSep_sep']
  isplitl [Hst]; · iexact Hst
  isplitl [Hat Hr]
  · isplitl [Hat]; · iexact Hat
    iexact Hr
  iexact Htok

/-! ## The semaphores at launch -/

theorem ownSemFacts : Pipeline.OwnSemFacts cfg0.spec osem := by decide +kernel

theorem unscoped_eq (c : Dev nD) : (unscopedSems0 c : sProp 𝕄) = semVal (kcell c kBar) 0 := by
  unfold unscopedSems0; rw [bigSep_eq_bigSepL_of_eq [SemLoc.reg barS] (by decide +kernel) (by decide)]; rfl
theorem ownSems_eq (c : Dev nD) :
    (Pipeline.ownSems0 (Ix := Unit) (Name := ℕ) (U := UU) (Lvl := ℕ) (Val := Elt F) (τ := τ) osem c : sProp 𝕄) = bigSep Finset.univ (zero c) := rfl

/-- The cells of one device: the barrier's, and the others. -/
theorem key_split (Φ : Key → sProp 𝕄) : bigSep Finset.univ Φ = iprop(Φ kBar ∗ bigSep Finset.univ fun k : OKey => Φ (.inr k)) := by
  rw [bigSep_univ_sum, bigSep_univ_eq_bigSepL [()] (by decide) (by decide)]; rfl

theorem sems_zero (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (kcell c k) 0 : sProp 𝕄) := by
  rw [ownSems_eq, unscoped_eq, key_split]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Key => iprop(∃ κ : ℕ, cellInv ER (Rd m ρ) κ (kcell c k)))
          ∗ ((bigSep Finset.univ fun k : Key => pos c k) ∗ bigSep Finset.univ fun k : Key => reached ER (kcell c k) 0) ∗ toks c) := by
  unfold G
  iintro ⟨Hos, Hus, Hst, Hat, Htok⟩
  ihave Hv := (sems_zero (F := F) c) $$ [Hos Hus]
  · isplitl [Hos] <;> iassumption
  imod (show iprop((bigSep Finset.univ fun k : Key => semVal (kcell c k) 0) ∗ bigSep Finset.univ fun k : Key => roundState ER (Rd m ρ) (kcell c k) 0)
      ⊢ (|={Set.univ}=> bigSep Finset.univ fun k : Key => iprop(∃ κ : ℕ, cellInv ER (Rd m ρ) κ (kcell c k)) : sProp 𝕄) from by
        rw [← bigSep_sep']
        exact (bigSep_mono fun k _ => (Rounds.body_intro ER (Rd m ρ) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to those who pay with them -/

/-- The invariants of all cells, and that each has reached its round. -/
def recs : sProp 𝕄 :=
  iprop((bigSep Finset.univ fun ck : Dev nD × Key => cellInv ER (Rd m ρ) (K ck) (kcell ck.1 ck.2))
    ∗ bigSep Finset.univ fun ck : Dev nD × Key => reached ER (kcell ck.1 ck.2) 0)
instance recs_persistent : BI.Persistent (recs m ρ K) := by unfold recs; infer_instance

/-- The tokens that device `c` pays with. -/
def paid (c : Dev nD) : sProp 𝕄 :=
  iprop((btok (nxt true c) false ∗ btok (nxt false c) true) ∗ bigSep Finset.univ fun k : OKey => tok (peer c k) (.inr k))
/-- What stays with device `c`. -/
def lin (c : Dev nD) : sProp 𝕄 := iprop((bigSep Finset.univ fun k : Key => pos c k) ∗ paid c)
/-- What device `c` has once the cells are set up. -/
def G' (c : Dev nD) : sProp 𝕄 := iprop(∃ K, recs m ρ K ∗ lin c)

theorem tok_moves (k : OKey) : (bigSep Finset.univ fun c : Dev nD => (tok c (.inr k) : sProp 𝕄)) = bigSep Finset.univ fun c : Dev nD => tok (peer c k) (.inr k) := by
  have h (d r : Bool) : (bigSep Finset.univ fun c : Dev nD => (tok c (.inr k) : sProp 𝕄)) = bigSep Finset.univ fun c : Dev nD => tok (bif r then nxt d c else c) (.inr k) := by
    cases r
    · rfl
    · exact bigSep_univ_equiv (ring d) (fun c : Dev nD => (tok c (.inr k) : sProp 𝕄))
  rcases k with ⟨j, d, r | ⟨b, r⟩⟩ | ⟨d, b, r⟩
  · exact h d r
  · exact h d r
  · exact h d r

theorem toks_move : (bigSep Finset.univ fun c : Dev nD => (toks c : sProp 𝕄)) ⊢ bigSep Finset.univ fun c : Dev nD => paid c := by
  unfold toks paid
  rw [bigSep_sep', bigSep_sep', bigSep_sep', bigSep_sep', bigSep_univ_comm (fun (c : Dev nD) (k : OKey) => (tok c (.inr k) : sProp 𝕄)),
    bigSep_univ_comm (fun (c : Dev nD) (k : OKey) => (tok (peer c k) (.inr k) : sProp 𝕄)), bigSep_congr (fun k _ => tok_moves (F := F) k),
    bigSep_univ_equiv (ring true) (fun c : Dev nD => (btok c false : sProp 𝕄)), bigSep_univ_equiv (ring false) (fun c : Dev nD => (btok c true : sProp 𝕄))]
  exact Entails.of_eq rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Key => iprop(∃ κ : ℕ, cellInv ER (Rd m ρ) κ (kcell c k)))
          ∗ ((bigSep Finset.univ fun k : Key => pos c k) ∗ bigSep Finset.univ fun k : Key => reached ER (kcell c k) 0) ∗ toks c) : sProp 𝕄)
      ⊢ bigSep Finset.univ (G' m ρ) := by
  rw [bigSep_sep', bigSep_sep', bigSep_sep', ← bigSep_univ_prod (fun ck : Dev nD × Key => iprop(∃ κ : ℕ, cellInv ER (Rd m ρ) κ (kcell ck.1 ck.2))),
    ← bigSep_univ_prod (fun ck : Dev nD × Key => (reached ER (kcell ck.1 ck.2) 0 : sProp 𝕄))]
  iintro ⟨HI, ⟨Hat, #HR⟩, Htok⟩
  ihave HK := (BI.bigSep_exists_pi Finset.univ (fun (ck : Dev nD × Key) (κ : ℕ) => (cellInv ER (Rd m ρ) κ (kcell ck.1 ck.2) : sProp 𝕄))) $$ HI
  icases HK with ⟨%K, #HI⟩
  ihave Htk := (toks_move (F := F)) $$ Htok
  iapply (with_persistent (R := recs m ρ K) (Φ := lin) (Ψ := G' m ρ) fun c _ => by
    unfold G'; iintro H; iexists K; iexact H)
  isplitr
  · unfold recs; isplitl; · iexact HI
    iexact HR
  · iapply (Entails.of_eq (bigSep_sep' Finset.univ (fun c : Dev nD => bigSep Finset.univ fun k : Key => (pos c k : sProp 𝕄)) paid).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of the receivers -/

/-- The debt of one copy. -/
def due (c : Dev nD) (k : OKey) : CellTallies nD τ sig Unit := bif isRecv k then ow1 (peer c k) (.inr k) else 0
/-- The debt of trip `j`. -/
def trip (c : Dev nD) (j : Fin 15) : CellTallies nD τ sig Unit := oStep c j 0

theorem oN_sum (c : Dev nD) : ∀ n, n ≤ 15 → oN c n = oFin c + ∑ i ∈ Finset.range n, trip c ⟨14 - i, by omega⟩
  | 0, _ => by rw [Finset.sum_range_zero, add_zero]; rfl
  | n + 1, h => by
    rw [Finset.sum_range_succ, ← add_assoc, ← oN_sum c n (by omega)]
    show oStep c _ _ = _ + oStep c _ 0
    unfold oStep
    simp only [zero_add, add_assoc]
theorem oFrom_sum (c : Dev nD) : oFrom c 0 = oFin c + ∑ j : Fin 15, trip c j := by
  have h := oN_sum c 15 (by omega)
  rw [show oFrom c 0 = oN c 15 from rfl, h, Finset.sum_range (fun i => trip c ⟨14 - i, by omega⟩), ← Equiv.sum_comp Fin.revPerm (trip c)]
  congr 1
theorem due_sum (c : Dev nD) : oFrom c 0 = ∑ k : OKey, due c k := by
  rw [oFrom_sum, Fintype.sum_sum_type, add_comm]
  refine congrArg₂ (· + ·) ?_ ?_
  · rw [Fintype.sum_prod_type]
    refine Finset.sum_congr rfl fun j _ => ?_
    simp only [Fintype.sum_prod_type, Fintype.sum_sum_type, Fintype.sum_bool, due, isRecv, peer, cond_true, cond_false, trip, oStep, kA, kX, zero_add, add_zero]
    ac_rfl
  · simp only [Fintype.sum_prod_type, Fintype.sum_bool, due, isRecv, peer, cond_true, cond_false, oFin, kF, zero_add, add_zero]
    ac_rfl

theorem ow1_cred (d : Bool) (k : Key) (c : Dev nD) : (Pipeline.launchCred (fun e => ow1 (nxt d e) k) c : sProp 𝕄) ⊢ crd c k :=
  Pipeline.launchCred_tallyAt (csem k) (nxt d) (nxt (!d)) (nxt_prv d) (prv_nxt d) () (kamt k) c
theorem due_cred (c : Dev nD) (k : OKey) : (Pipeline.launchCred (fun e => due e k) c : sProp 𝕄) ⊢ bif isRecv k then crd c (.inr k) else iprop(emp) := by
  have h (d r : Bool) : (Pipeline.launchCred (fun e => bif r then ow1 (bif r then nxt d e else e) (.inr k) else 0) c : sProp 𝕄) ⊢ bif r then crd c (.inr k) else iprop(emp) := by
    cases r
    · exact Entails.of_eq (Pipeline.launchCred_zero c)
    · exact ow1_cred d (.inr k) c
  rcases k with ⟨j, d, r | ⟨b, r⟩⟩ | ⟨d, b, r⟩
  · exact h d r
  · exact h d r
  · exact h d r

theorem creds (c : Dev nD) :
    (Pipeline.launchCred O₀ c : sProp 𝕄)
      ⊢ iprop(cred (tallyAt (kcell c kBar) () 2) ∗ bigSep Finset.univ fun k : OKey => bif isRecv k then crd c (.inr k) else iprop(emp)) := by
  rw [show O₀ = fun e => ((∑ k : OKey, due e k) + ow1 (nxt false e) kBar) + ow1 (nxt true e) kBar from funext fun e => by rw [← due_sum]; rfl,
    Pipeline.launchCred_add (fun e => (∑ k : OKey, due e k) + ow1 (nxt false e) kBar) (fun e => ow1 (nxt true e) kBar),
    Pipeline.launchCred_add (fun e => ∑ k : OKey, due e k) (fun e => ow1 (nxt false e) kBar), Pipeline.launchCred_sum Finset.univ (fun k e => due e k) c]
  iintro ⟨⟨H, H1⟩, H2⟩
  isplitl [H1 H2]
  · ihave H1 := (ow1_cred false kBar c) $$ H1
    ihave H2 := (ow1_cred true kBar c) $$ H2
    iapply (show iprop(crd c kBar ∗ crd c kBar) ⊢ (cred (tallyAt (kcell c kBar) () 2) : sProp 𝕄) from by
      refine (cred_add _ _).2.trans (Entails.of_eq (congrArg cred ?_))
      show tallyAt (kcell c kBar) () 1 + tallyAt (kcell c kBar) () 1 = _
      exact tallyAt_add _ _ 1 1)
    isplitl [H1]; · iexact H1
    iexact H2
  iapply (show (bigSep Finset.univ fun k : OKey => (Pipeline.launchCred (fun e => due e k) c : sProp 𝕄))
    ⊢ bigSep Finset.univ fun k : OKey => bif isRecv k then crd c (.inr k) else iprop(emp) from bigSep_mono fun k _ => due_cred (F := F) c k)
  iexact H

/-! ## What a device starts from and ends with -/

def start (c : Dev nD) : sProp 𝕄 :=
  iprop(G' m ρ c ∗ (cred (tallyAt (kcell c kBar) () 2) ∗ bigSep Finset.univ fun k : OKey => bif isRecv k then crd c (.inr k) else iprop(emp)) ∗ levAts L lv)
def Φ₀ (c : Dev nD) : sProp 𝕄 := iprop(start m ρ c ∗ bufs false c ∗ bufs true c)
def Φ₁ (c : Dev nD) : sProp 𝕄 := iprop(semVal (kcell c kBar) 0 ∗ bigSep Finset.univ (zero c) ∗ bufs false c ∗ bufs true c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => wq m ρ c
    | ⟨2, _⟩ => wo m ρ c
    | ⟨3, _⟩ => wk m ρ c
    | ⟨4, _⟩ => wv m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The levels, the invariants and what is a device's own make what its body starts from. -/
theorem start_begins (c : Dev nD) :
    iprop(recs m ρ K ∗ lin c ∗ (cred (tallyAt (kcell c kBar) () 2) ∗ bigSep Finset.univ fun k : OKey => bif isRecv k then crd c (.inr k) else iprop(emp)) ∗ levAts L lv
      ∗ (bufs false c ∗ bufs true c) ∗ ow c (O₀ c) ∗ ins m ρ c ∗ anyAt c (Memref.whole cc0_stg5_0)) ⊢ begins m ρ K c := by
  unfold recs lin paid begins Env own
  rw [key_split, bigSep_sep', bigSep_sep']
  iintro ⟨⟨HI, HR⟩, ⟨⟨HpB, Hp⟩, ⟨Ht1, Ht2⟩, Ht⟩, ⟨HcB, Hc⟩, HL, Hb, HO, Hi, Ho⟩
  isplitl [HI HR HL]
  · isplitl [HI]; · iexact HI
    isplitl [HR]; · iexact HR
    iexact HL
  isplitl [HO]; · iexact HO
  isplitl [HpB HcB Ht1 Ht2]
  · isplitl [HpB]; · iexact HpB
    isplitl [HcB]; · iexact HcB
    isplitl [Ht1]; · iexact Ht1
    iexact Ht2
  isplitl [Hp Ht Hc]
  · isplitl [Hp]; · iexact Hp
    isplitl [Ht]; · iexact Ht
    iexact Hc
  isplitl [Hb]; · iexact Hb
  isplitl [Hi]; · iexact Hi
  iexact Ho

theorem before_0 (c : Dev nD) (d) : (dats m ρ 0 c).before (0 : Fin 6) t0_0 d = xin m ρ c := by
  unfold Dat.before; rw [if_pos (fetch0_0 t0_0)]; rfl
theorem before_1 (c : Dev nD) (d) : (dats m ρ 0 c).before (1 : Fin 6) t0_0 d = wq m ρ c := by
  unfold Dat.before; rw [if_pos (fetch0_1 t0_0)]; rfl
theorem before_2 (c : Dev nD) (d) : (dats m ρ 0 c).before (2 : Fin 6) t0_0 d = wo m ρ c := by
  unfold Dat.before; rw [if_pos (fetch0_2 t0_0)]; rfl
theorem before_3 (c : Dev nD) (d) : (dats m ρ 0 c).before (3 : Fin 6) t0_0 d = wk m ρ c := by
  unfold Dat.before; rw [if_pos (fetch0_3 t0_0)]; rfl
theorem before_4 (c : Dev nD) (d) : (dats m ρ 0 c).before (4 : Fin 6) t0_0 d = wv m ρ c := by
  unfold Dat.before; rw [if_pos (fetch0_4 t0_0)]; rfl

/-- What the pipeline hands to the body. -/
def handed (c : Dev nD) : sProp 𝕄 :=
  iprop(Φ₀ m ρ c ∗ (dats m ρ 0 c).owesAt () t0_0.castSucc
    ∗ (∃ d, at_ c (Memref.whole cc0_stg0_0) fullShare ((dats m ρ 0 c).before (0 : Fin 6) t0_0 d))
    ∗ (∃ d, at_ c (Memref.whole cc0_stg1_0) fullShare ((dats m ρ 0 c).before (1 : Fin 6) t0_0 d))
    ∗ (∃ d, at_ c (Memref.whole cc0_stg2_0) fullShare ((dats m ρ 0 c).before (2 : Fin 6) t0_0 d))
    ∗ (∃ d, at_ c (Memref.whole cc0_stg3_0) fullShare ((dats m ρ 0 c).before (3 : Fin 6) t0_0 d))
    ∗ (∃ d, at_ c (Memref.whole cc0_stg4_0) fullShare ((dats m ρ 0 c).before (4 : Fin 6) t0_0 d))
    ∗ (∃ d, at_ c (Memref.whole cc0_stg5_0) fullShare ((dats m ρ 0 c).before (5 : Fin 6) t0_0 d)))
/-- What it wants back. -/
def returned (c : Dev nD) : sProp 𝕄 :=
  iprop(Φ₁ c ∗ (dats m ρ 0 c).owesAt () t0_0.succ
    ∗ at_ c (Memref.whole cc0_stg0_0) fullShare (xin m ρ c) ∗ at_ c (Memref.whole cc0_stg1_0) fullShare (wq m ρ c)
    ∗ at_ c (Memref.whole cc0_stg2_0) fullShare (wo m ρ c) ∗ at_ c (Memref.whole cc0_stg3_0) fullShare (wk m ρ c)
    ∗ at_ c (Memref.whole cc0_stg4_0) fullShare (wv m ρ c) ∗ at_ c (Memref.whole cc0_stg5_0) fullShare (outAt m ρ c))

theorem ends_returned (c : Dev nD) : ends m ρ c ⊢ returned m ρ c := by
  unfold ends returned Φ₁ ow ins Dat.owesAt Pipeline.owesWithin
  rw [show (dats m ρ 0 c).owed t0_0.succ = 0 from rfl]
  iintro ⟨⟨%W, HO⟩, Hz, Hzs, ⟨Hb1, Hb2⟩, ⟨H0, H1, H2, H3, H4⟩, H5⟩
  isplitl [Hz Hzs Hb1 Hb2]
  · isplitl [Hz]; · iexact Hz
    isplitl [Hzs]; · iexact Hzs
    isplitl [Hb1]; · iexact Hb1
    iexact Hb2
  isplitl [HO]
  · iexists W
    isplitr; · (ipureintro; exact fun _ _ => Or.inl trivial)
    iexact HO
  isplitl [H0]; · iexact H0
  isplitl [H1]; · iexact H1
  isplitl [H2]; · iexact H2
  isplitl [H3]; · iexact H3
  isplitl [H4]; · iexact H4
  iexact H5

theorem handed_run (c : Dev nD) : handed m ρ c ⊢ WP c (theBody (F := F)) (fun _ => returned m ρ c) := by
  unfold handed Φ₀ start G'
  simp only [before_0, before_1, before_2, before_3, before_4]
  iintro ⟨⟨⟨⟨%K, HR, Hlin⟩, Hc, HL⟩, Hb⟩, Ho, ⟨%d0, H0⟩, ⟨%d1, H1⟩, ⟨%d2, H2⟩, ⟨%d3, H3⟩, ⟨%d4, H4⟩, ⟨%d5, H5⟩⟩
  ihave H5 := (at_any c (Memref.whole cc0_stg5_0) _) $$ H5
  ihave HO := (show (dats m ρ 0 c).owesAt () t0_0.castSucc ⊢ ow c (O₀ c) from by
    unfold Dat.owesAt Pipeline.owesWithin ow
    rw [show (dats m ρ 0 c).owed t0_0.castSucc = O₀ c from rfl]
    iintro ⟨%W, %hW, HO⟩
    iexists W; iexact HO) $$ Ho
  iapply (body_run m ρ K c fun _ => returned m ρ c)
  isplitr []
  · iapply (start_begins m ρ K c)
    isplitl [HR]; · iexact HR
    isplitl [Hlin]; · iexact Hlin
    isplitl [Hc]; · iexact Hc
    isplitl [HL]; · iexact HL
    isplitl [Hb]; · iexact Hb
    isplitl [HO]; · iexact HO
    isplitl [H0 H1 H2 H3 H4]
    · unfold ins
      isplitl [H0]; · iexact H0
      isplitl [H1]; · iexact H1
      isplitl [H2]; · iexact H2
      isplitl [H3]; · iexact H3
      iexact H4
    iexact H5
  · iintro H; iapply (ends_returned m ρ c); iexact H

set_option maxRecDepth 4000 in
/-- The body at the launch's one grid point. -/
theorem body_obligation (c : Dev nD) : BodyObligation (dats (F := F) m ρ 0 c) (defs₀ (F := F)) 𝒱₀ () Set.univ := fun t => by
  rw [fin_N0 t, bigSep_W0, bigSep_W0]
  exact handed_run m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem rest_bufs (c : Dev nD) : (Pipeline.scopedRest (Ix := Unit) (Name := ℕ) (U := UU) (Lvl := ℕ) (Val := Elt F) spec0 c : sProp 𝕄)
    ⊢ iprop(bufs false c ∗ bufs true c) := by
  rw [scopedRest0_eq]
  unfold bufs xbM cbM arM finM
  simp only [cond_true, cond_false, anyAt, Memref.view_whole, View.set_whole]
  iintro ⟨H0, H1, H2, H3, H4, H5, H6, H7⟩
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  iexact H7
theorem bufs_rest (c : Dev nD) : iprop(bufs false c ∗ bufs true c)
    ⊢ (Pipeline.scopedRest (Ix := Unit) (Name := ℕ) (U := UU) (Lvl := ℕ) (Val := Elt F) spec0 c : sProp 𝕄) := by
  rw [scopedRest0_eq]
  unfold bufs xbM cbM arM finM
  simp only [cond_true, cond_false, anyAt, Memref.view_whole, View.set_whole]
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (rest_bufs (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems_eq, unscoped_eq]
  unfold Φ₁
  iintro ⟨Hz, Hzs, Hb⟩
  isplitl [Hz]; · iexact Hz
  isplitl [Hzs]; · iexact Hzs
  iapply (bufs_rest (F := F) c); iexact Hb

theorem above_start (c : Dev nD) : Above 0 (O₀ c) := by
  unfold O₀
  exact ((Above.from c 0 (by omega) (by omega)).add (.one _ kBar (by decide))).add (.one _ kBar (by decide))

/-- The staging semaphores are lowest. -/
theorem stage_low : ∀ (w : Fin 6) (s : Fin (cfg0.win w).nbuf), (keyOf (.dma ((cfg0.win w).sem s))).elim 0 klv ≤ 0 := by decide

theorem waits (c : Dev nD) : (levAts L lv : sProp 𝕄) ⊢ Pipeline.cellsWaits cfgs (dats m ρ) () 0 c :=
  Pipeline.cellsWaits_intro cfgs (dats m ρ) () 0 c fun w s t => by
    have h : Above 0 ((dats m ρ 0 c).owed t) := by
      rcases t with ⟨_ | _, ht⟩
      · exact above_start c
      · exact Above.zero 0
    exact mayWait c _ (stage_low w s) h

/-! ## The run -/

/-- The contents of the array of window `w` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values, from any memory with zero counters: every weakly fair execution
    terminates with each window's array at the contents `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

noncomputable section

namespace Cert.Ring

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Over any float values: the run ends with the arguments as they were, every semaphore counter at zero, and each
    result array at the contents `finalA`. -/
theorem run_all :
    θ_run defs (onTc (τ := τ) (main (F := F))) ⟨m, fun _ => 0, ρ⟩ (fun r => (∀ c : Dev nD,
      r.2.mem ((c.tc : Thread nD τ).loc main_v1) = finalA m ρ c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1 c (5 : Fin 6),
      (h.1 c (0 : Fin 6)).trans ((dats m ρ 0 c).arrAt_in (0 : Fin 6) rfl _), (h.1 c (1 : Fin 6)).trans ((dats m ρ 0 c).arrAt_in (1 : Fin 6) rfl _),
      (h.1 c (2 : Fin 6)).trans ((dats m ρ 0 c).arrAt_in (2 : Fin 6) rfl _), (h.1 c (3 : Fin 6)).trans ((dats m ρ 0 c).arrAt_in (3 : Fin 6) rfl _),
      (h.1 c (4 : Fin 6)).trans ((dats m ρ 0 c).arrAt_in (4 : Fin 6) rfl _)⟩, h.2⟩) (run_main m ρ)

/-- The arguments and the counters after the run, over any float values. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_all m ρ)

set_option maxRecDepth 20000 in
/-- The body tables of the two printed programs are the same, label by label. -/
theorem bodies_eq : Cert.Kernel.defs₀ (F := F) = Cert.KernelIdeal.defs₀ (F := F) := by
  refine congrArg (Defs.onTc (nD := nD) (τ := Cert.KernelIdeal.τ))
    (funext fun l => funext fun a => ?_)
  match l, a with
  | 0, (t, s) => rfl
  | ⟨_ + 1, h⟩, _ => exact absurd h (Nat.not_lt.2 (Nat.le_add_left _ _))

/-- So are their definitions, the pipelines' included. -/
theorem defs_eq : Cert.Kernel.defs (F := F) = Cert.KernelIdeal.defs (F := F) :=
  congrArg (Pipeline.defs (Cert.KernelIdeal.pcfgs (F := F))) bodies_eq

/-- The kernel over floats leaves its arguments and the counts as they were. -/
theorem frame_kernel : Cert.quiescent_Kernel := fun m ρ _ => by
  have h := run_frame (F := Bits) m ρ
  rw [← defs_eq] at h
  exact h

/-- So does the kernel over the extended reals. -/
theorem frame_ideal : Cert.quiescent_KernelIdeal := fun m ρ _ =>
  run_frame (F := Ideal) m ρ

/-- The reference leaves its arguments unchanged, and has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Ring

end
-- ==== Proof.Heads.lean ====
module

public import Idealize.ShloMosaic.Lib.IdealHost
public import Idealize.ShloMosaic.Lib.SortNet.Extract

@[expose] public section

/-! The arithmetic of one attention head over the extended reals, and how sums over a long axis split into its parts. -/

noncomputable section

namespace Cert.Ring

open Idealize.ShloMosaic
open scoped BigOperators

/-- A sum over an axis of `m` parts of length `n` is the sum over the parts. -/
theorem sum_parts {M : Type*} [AddCommMonoid M] (m n : ℕ) (f : Fin (m * n) → M) :
    ∑ c, f c = ∑ h : Fin m, ∑ e : Fin n, f (finProdFinEquiv (h, e)) := by
  rw [← Equiv.sum_comp finProdFinEquiv f, Fintype.sum_prod_type]

/-- Only one part of an axis is left of a sum that is zero off that part. -/
theorem sum_part {M : Type*} [AddCommMonoid M] (m n : ℕ) (f : Fin (m * n) → M) (h : Fin m)
    (hf : ∀ c : Fin (m * n), c.val / n ≠ h.val → f c = 0) :
    ∑ c, f c = ∑ e : Fin n, f (finProdFinEquiv (h, e)) := by
  rw [sum_parts]
  refine Finset.sum_eq_single h (fun h' _ hne => Finset.sum_eq_zero fun e _ => hf _ fun he => hne (Fin.ext ?_))
    (fun hh => absurd (Finset.mem_univ _) hh)
  rw [← he]
  show h'.val = (e.val + n * h'.val) / n
  rw [Nat.add_mul_div_left _ _ (Nat.pos_of_ne_zero fun h0 => by have := e.isLt; omega), Nat.div_eq_of_lt e.isLt, Nat.zero_add]

/-- A nonnegative real factor comes out of a sum of extended reals. -/
theorem mul_sum_coe {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A sum of reals is the same sum of extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals, at least one, is a real. -/
theorem foldl_max_real {ι : Type} (l : List ι) (hl : l ≠ []) (f : ι → EReal) (hf : ∀ i, ∃ r : ℝ, f i = r) :
    ∃ r : ℝ, l.foldl (fun a i => max a (f i)) ⊥ = r := by
  rcases Idealize.ShloMosaic.SortNet.foldl_max_mem f l ⊥ with h | ⟨i, -, h⟩
  · obtain ⟨a, l', rfl⟩ := List.exists_cons_of_ne_nil hl
    have := (Idealize.ShloMosaic.SortNet.le_foldl_max f (a :: l') ⊥).2 a List.mem_cons_self
    obtain ⟨r, hr⟩ := hf a
    rw [h, hr] at this
    exact absurd (le_bot_iff.mp this) (EReal.coe_ne_bot r)
  · obtain ⟨r, hr⟩ := hf i
    exact ⟨r, h.trans hr⟩

/-- The weighted mean of values `V` with weights the exponentials of real scores does not change when a real is taken off
    every score. -/
theorem head_shift {ι : Type*} [Fintype ι] [Nonempty ι] (s : ι → ℝ) (V : ι → EReal) (M : ℝ) :
    Ideal.div (∑ j, V j * Ideal.exp ((s j : EReal) - (M : EReal))) (∑ j, Ideal.exp ((s j : EReal) - (M : EReal)))
      = Ideal.div (∑ j, Ideal.exp (s j : EReal) * V j) (∑ j, Ideal.exp (s j : EReal)) := by
  have he : ∀ j, Ideal.exp ((s j : EReal) - (M : EReal)) = ((Real.exp (-M) : ℝ) : EReal) * Ideal.exp (s j : EReal) := fun j => by
    rw [← EReal.coe_sub]
    show ((Real.exp (s j - M) : ℝ) : EReal) = ((Real.exp (-M) : ℝ) : EReal) * ((Real.exp (s j) : ℝ) : EReal)
    rw [← EReal.coe_mul, ← Real.exp_add]; congr 2; ring
  have hc := Real.exp_pos (-M)
  have hl : 0 < ∑ j, Real.exp (s j) := Finset.sum_pos (fun j _ => Real.exp_pos _) Finset.univ_nonempty
  have hd : ∑ j, Ideal.exp (s j : EReal) = ((∑ j, Real.exp (s j) : ℝ) : EReal) := (coe_sum _ _).symm
  have hn : ∑ j, V j * Ideal.exp ((s j : EReal) - (M : EReal))
      = ((Real.exp (-M) : ℝ) : EReal) * ∑ j, Ideal.exp (s j : EReal) * V j := by
    rw [mul_sum_coe _ _ hc.le]
    exact Finset.sum_congr rfl fun j _ => by rw [he, mul_comm (V j), mul_assoc]
  rw [hn, Finset.sum_congr rfl fun j _ => he j, ← mul_sum_coe _ _ hc.le, hd, ← EReal.coe_mul,
    Ideal.div_coe (mul_pos hc hl).ne', Ideal.div_coe hl.ne', mul_comm ((Real.exp (-M) : ℝ) : EReal), mul_assoc, ← EReal.coe_mul]
  congr 2
  field_simp

/-- A scale on one factor of each product of reals is a scale on their sum. -/
theorem scale_dot {ι : Type*} [Fintype ι] (t : ℝ) (q k : ι → ℝ) :
    ∑ e, ((q e : EReal) * (t : EReal)) * (k e : EReal) = (∑ e, (q e : EReal) * (k e : EReal)) * (t : EReal) := by
  simp only [← EReal.coe_mul, ← coe_sum]
  rw [Finset.sum_mul]
  exact congrArg _ (Finset.sum_congr rfl fun e _ => by ring)

end Cert.Ring

end
-- ==== Proof.Block.lean ====
module

public import proofs.«01_k».proof.Proof.Heads
public import proofs.«01_k».proof.Proof.Gen.KernelIdeal.Skeleton
public import Idealize.ShloMosaic.Lib.MatmulPlain
public import Idealize.ShloMosaic.Lib.ValueLayout
public import Idealize.ShloMosaic.Lib.Pipeline.Value
public import Idealize.ShloMosaic.Lib.Routing.Words

@[expose] public section

/-! What a device computes of one block of 128 rows: the attention of its eight heads, times its rows of the last weight. -/

noncomputable section

namespace Cert.Ring

open Cert.KernelIdeal Cert.KernelIdeal.Gen
open Idealize.ShloMosaic Idealize.ShloMosaic.ValueIdx
open scoped BigOperators

/-! ## The masks -/

/-- The word comparison of two small quotients, read as a float: one where they are equal, zero elsewhere. -/
theorem mask_word {a b p q : ℕ} (ha : a < 2 ^ 31) (hb : b < 2 ^ 31) (hp : 0 < p) (hp' : p < 2 ^ 31) (hq : 0 < q) (hq' : q < 2 ^ 31) :
    (((((IntOp.cmpi .eq (IntOp.divsi .vector (BitVec.ofNat 32 a) (BitVec.ofNat 32 p))
      (IntOp.divsi .vector (BitVec.ofNat 32 b) (BitVec.ofNat 32 q))).setWidth 32).toInt : ℝ)) : EReal)
      = if a / p = b / q then 1 else 0 := by
  rw [Routing.divsi_word _ ha hp hp', Routing.divsi_word _ hb hq hq']
  have h1 : a / p ≤ a := Nat.div_le_self _ _
  have h2 : b / q ≤ b := Nat.div_le_self _ _
  have hiff : (BitVec.ofNat 32 (a / p) = BitVec.ofNat 32 (b / q)) ↔ a / p = b / q := by
    constructor
    · intro h
      have := congrArg BitVec.toNat h
      rw [BitVec.toNat_ofNat, BitVec.toNat_ofNat, Nat.mod_eq_of_lt (by omega), Nat.mod_eq_of_lt (by omega)] at this
      exact this
    · intro h; rw [h]
  show ((((BitVec.ofBool (BitVec.ofNat 32 (a / p) == BitVec.ofNat 32 (b / q))).setWidth 32).toInt : ℝ) : EReal) = _
  by_cases h : a / p = b / q
  · rw [if_pos h, hiff.2 h, beq_self_eq_true]; simp
  · rw [if_neg h, beq_eq_false_iff_ne.2 (fun h' => h (hiff.1 h'))]; simp

/-- The mask of the scores: one where the row's head is the column's. -/
theorem kmask_apply (c : Fin 512) (n : Fin 1024) :
    (k0_pay24 k0_pay22 k0_pay23 : FVec Ideal S512x1024 .bf16) (ix2 c n) = if c.val / 64 = n.val / 128 then 1 else 0 := by
  have h := mask_word (a := c.val) (b := n.val) (p := 64) (q := 128) (by omega) (by omega) (by omega) (by omega) (by omega) (by omega)
  refine Eq.trans ?_ h
  show ((((IntOp.cmpi .eq (IntOp.divsi .vector (BitVec.ofNat 32 (0 * 512 + c.val)) 64#32)
    (IntOp.divsi .vector (BitVec.ofNat 32 (0 * 1024 + n.val)) 128#32)).setWidth 32).toInt : ℝ) : EReal) = _
  rw [Nat.zero_mul, Nat.zero_add, Nat.zero_add]

/-- The mask of the values: one where the row's head is the column's. -/
theorem vmask_apply (n : Fin 1024) (j : Fin 512) :
    (k0_pay25 : FVec Ideal S1024x512 .bf16) (ix2 n j) = if n.val / 128 = j.val / 64 then 1 else 0 := by
  have h := mask_word (a := n.val) (b := j.val) (p := 128) (q := 64) (by omega) (by omega) (by omega) (by omega) (by omega) (by omega)
  refine Eq.trans ?_ h
  show ((((IntOp.cmpi .eq (IntOp.divsi .vector (BitVec.ofNat 32 (0 * 1024 + n.val)) 128#32)
    (IntOp.divsi .vector (BitVec.ofNat 32 (0 * 512 + j.val)) 64#32)).setWidth 32).toInt : ℝ) : EReal) = _
  rw [Nat.zero_mul, Nat.zero_add, Nat.zero_add]

/-! ## One block's attention, as the kernel computes it -/

/-- The attention of one block of 128 rows from its queries, keys and values, all eight heads side by side. -/
def att (q k v : FVec Ideal S128x512 .bf16) : FVec Ideal S128x512 .bf16 :=
  have kt : FVec Ideal S512x128 .bf16 := transpose S512x128 [1, 0] k transposes_S128x512_p1_0_S512x128
  have kb : FVec Ideal S512x1024 .bf16 := mulf (concatenate S512x1024 1 [⟨S512x128, kt⟩, ⟨S512x128, kt⟩, ⟨S512x128, kt⟩, ⟨S512x128, kt⟩, ⟨S512x128, kt⟩, ⟨S512x128, kt⟩, ⟨S512x128, kt⟩, ⟨S512x128, kt⟩] concatenates_S512x128_S512x128_S512x128_S512x128_S512x128_S512x128_S512x128_S512x128_S512x1024_d1) (k0_pay24 k0_pay22 k0_pay23)
  have vb : FVec Ideal S1024x512 .bf16 := mulf (concatenate S1024x512 0 [⟨S128x512, v⟩, ⟨S128x512, v⟩, ⟨S128x512, v⟩, ⟨S128x512, v⟩, ⟨S128x512, v⟩, ⟨S128x512, v⟩, ⟨S128x512, v⟩, ⟨S128x512, v⟩] concatenates_S128x512_S128x512_S128x512_S128x512_S128x512_S128x512_S128x512_S128x512_S1024x512_d0) k0_pay25
  have s : FVec Ideal S128x1024 .f32 := matmul dot_S128x512_S512x1024_S128x1024_1_0_0_1_n_n none q kb (constant S128x1024 .f32 0x00000000#32)
  have p : FVec Ideal S128x1024 .bf16 := truncf .bf16 (exp s) bitsLt_bf16_f32
  have o : FVec Ideal S128x512 .f32 := matmul dot_S128x1024_S1024x512_S128x512_1_0_0_1_n_n none p vb (constant S128x512 .f32 0x00000000#32)
  have l : FVec Ideal S128x512 .f32 := matmul dot_S128x1024_S1024x512_S128x512_1_0_0_1_n_n none p k0_pay25 (constant S128x512 .f32 0x00000000#32)
  truncf .bf16 (divf o l) bitsLt_bf16_f32

/-- The product of two blocks' attentions, one above the other, with the last weight. -/
def both (q k v : FVec Ideal S256x512 .bf16) (wo : FVec Ideal S512x512 .bf16) : FVec Ideal S256x512 .f32 :=
  matmul dot_S256x512_S512x512_S256x512_1_0_0_1_n_n none
    (concatenate S256x512 0
      [⟨S128x512, att (extractStridedSlice S128x512 ![0, 0] q slices_S256x512_o0_0_S128x512)
          (extractStridedSlice S128x512 ![0, 0] k slices_S256x512_o0_0_S128x512)
          (extractStridedSlice S128x512 ![0, 0] v slices_S256x512_o0_0_S128x512)⟩,
        ⟨S128x512, att (extractStridedSlice S128x512 ![128, 0] q slices_S256x512_o128_0_S128x512)
          (extractStridedSlice S128x512 ![128, 0] k slices_S256x512_o128_0_S128x512)
          (extractStridedSlice S128x512 ![128, 0] v slices_S256x512_o128_0_S128x512)⟩]
      concatenates_S128x512_S128x512_S256x512_d0) wo (constant S256x512 .f32 0x00000000#32)

/-- The kernel's step is that product, of the scaled queries, the keys and the values of the two blocks' rows. -/
theorem pay5_eq (wk wv wo : FVec Ideal S512x512 .bf16) (x2 : FVec Ideal S256x512 .bf16) (q t : FVec Ideal S256x512 .f32) :
    k0_pay5 wk wv wo (k0_pay24 k0_pay22 k0_pay23) k0_pay25 x2 q t =
      both (truncf .bf16 (mulf q t) bitsLt_bf16_f32)
        (truncf .bf16 (matmul dot_S256x512_S512x512_S256x512_1_0_0_1_n_n none x2 wk (constant S256x512 .f32 0x00000000#32)) bitsLt_bf16_f32)
        (truncf .bf16 (matmul dot_S256x512_S512x512_S256x512_1_0_0_1_n_n none x2 wv (constant S256x512 .f32 0x00000000#32)) bitsLt_bf16_f32)
        wo := rfl

/-! ## Read at an index -/

theorem zero_f32 : Ideal.ofBits .f32 0x00000000#32 = 0 := by simp [Ideal.ofBits, Ideal.ieee]

/-- A product onto a zero accumulator, at an index: the sum over the contracted axis. -/
theorem mm {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  refine (Ideal.matmul_plain_apply prec lhs rhs _ r c).trans ?_
  rw [constant_apply, zero_f32, zero_add]

theorem att_apply (q k v : FVec Ideal S128x512 .bf16) (i : Fin 128) (j : Fin 512) :
    att q k v (ix2 i j)
      = Ideal.div
          (∑ n : Fin 1024, Ideal.exp (∑ c : Fin 512, q (ix2 i c) * (k (ix2 (⟨n.val % 128, Nat.mod_lt _ (by omega)⟩ : Fin 128) c) * if c.val / 64 = n.val / 128 then 1 else 0))
            * (v (ix2 (⟨n.val % 128, Nat.mod_lt _ (by omega)⟩ : Fin 128) j) * if n.val / 128 = j.val / 64 then 1 else 0))
          (∑ n : Fin 1024, Ideal.exp (∑ c : Fin 512, q (ix2 i c) * (k (ix2 (⟨n.val % 128, Nat.mod_lt _ (by omega)⟩ : Fin 128) c) * if c.val / 64 = n.val / 128 then 1 else 0))
            * if n.val / 128 = j.val / 64 then 1 else 0) := by
  have hk : ∀ (c : Fin 512) (n : Fin 1024),
      concatenate S512x1024 1 (List.replicate 8 (⟨S512x128, transpose S512x128 [1, 0] k transposes_S128x512_p1_0_S512x128⟩ : (s : Shape) × (s.Idx → Ideal .bf16))) concatenates_S512x128_S512x128_S512x128_S512x128_S512x128_S512x128_S512x128_S512x128_S512x1024_d1 (ix2 c n)
        = k (ix2 (⟨n.val % 128, Nat.mod_lt _ (by omega)⟩ : Fin 128) c) := fun c n => by
    refine (concatenate_replicate_apply (t := S512x1024) (s₁ := S512x128) 1 8 _ _ rfl _ (ix2 c (⟨n.val % 128, Nat.mod_lt _ (by omega)⟩ : Fin 128)) rfl ?_).trans (transpose_ix2_apply k _ _ _)
    intro b hb
    match b with
    | ⟨0, _⟩ => rfl
    | ⟨1, _⟩ => exact absurd rfl hb
  have hv : ∀ (n : Fin 1024) (j : Fin 512),
      concatenate S1024x512 0 (List.replicate 8 (⟨S128x512, v⟩ : (s : Shape) × (s.Idx → Ideal .bf16))) concatenates_S128x512_S128x512_S128x512_S128x512_S128x512_S128x512_S128x512_S128x512_S1024x512_d0 (ix2 n j)
        = v (ix2 (⟨n.val % 128, Nat.mod_lt _ (by omega)⟩ : Fin 128) j) := fun n j => by
    refine concatenate_replicate_apply (t := S1024x512) (s₁ := S128x512) 0 8 _ _ rfl _ (ix2 (⟨n.val % 128, Nat.mod_lt _ (by omega)⟩ : Fin 128) j) rfl ?_
    intro b hb
    match b with
    | ⟨0, _⟩ => exact absurd rfl hb
    | ⟨1, _⟩ => rfl
  have hp : ∀ n : Fin 1024, Ideal.exp (matmul (F := Ideal) (DotDims.plain 128 512 1024) none q
        (mulf (concatenate S512x1024 1 (List.replicate 8 (⟨S512x128, transpose S512x128 [1, 0] k transposes_S128x512_p1_0_S512x128⟩ : (s : Shape) × (s.Idx → Ideal .bf16))) concatenates_S512x128_S512x128_S512x128_S512x128_S512x128_S512x128_S512x128_S512x128_S512x1024_d1) (k0_pay24 k0_pay22 k0_pay23 : FVec Ideal S512x1024 .bf16)) (constant S128x1024 .f32 0x00000000#32) (ix2 i n))
      = Ideal.exp (∑ c : Fin 512, q (ix2 i c) * (k (ix2 (⟨n.val % 128, Nat.mod_lt _ (by omega)⟩ : Fin 128) c) * if c.val / 64 = n.val / 128 then 1 else 0)) := fun n => by
    refine congrArg Ideal.exp ((mm none _ _ i n).trans (Finset.sum_congr rfl fun c _ => ?_))
    rw [mulf_apply, hk, kmask_apply]
  refine congrArg₂ Ideal.div ?_ ?_
  · refine (mm (M := 128) (K := 1024) (N := 512) (φ₁ := .bf16) (φ₂ := .bf16) none _ _ i j).trans (Finset.sum_congr rfl fun n _ => ?_)
    refine congrArg₂ (· * ·) (hp n) ?_
    rw [mulf_apply, vmask_apply]
    exact congrArg (· * _) (hv n j)
  · refine (mm (M := 128) (K := 1024) (N := 512) (φ₁ := .bf16) (φ₂ := .bf16) none _ _ i j).trans (Finset.sum_congr rfl fun n _ => ?_)
    refine congrArg₂ (· * ·) (hp n) (vmask_apply n j)

/-! ## The same over the rows and columns -/

/-- Column `e` of the head that column `j` lies in. -/
def col (j : Fin 512) (e : Fin 64) : Fin 512 := ⟨e.val + 64 * (j.val / 64), by omega⟩

/-- A head's attention at a row and a column, from the rows of queries, keys and values: the values of the column
    weighted with the exponentials of the scores, over the sum of the exponentials. -/
def head (q k v : Fin 128 → Fin 512 → EReal) (i : Fin 128) (j : Fin 512) : EReal :=
  Ideal.div (∑ n : Fin 128, Ideal.exp (∑ e : Fin 64, q i (col j e) * k n (col j e)) * v n j)
    (∑ n : Fin 128, Ideal.exp (∑ e : Fin 64, q i (col j e) * k n (col j e)))

/-- The scale of the scores. -/
def scl : EReal := Ideal.ofBits .f32 0x3E000000#32

/-- What a device with these weights adds to the result of a block of rows `x`. -/
def contr (wq wk wv wo : Fin 512 → Fin 512 → EReal) (x : Fin 128 → Fin 512 → EReal) (i : Fin 128) (c : Fin 512) : EReal :=
  ∑ j : Fin 512, head (fun i c => (∑ k, x i k * wq k c) * scl) (fun i c => ∑ k, x i k * wk k c)
    (fun i c => ∑ k, x i k * wv k c) i j * wo j c

/-- Off its own head a row's scores and values are zero, so a column of the block's attention is its head's. -/
theorem att_head (q k v : FVec Ideal S128x512 .bf16) (i : Fin 128) (j : Fin 512) :
    att q k v (ix2 i j) = head (fun a b => q (ix2 a b)) (fun a b => k (ix2 a b)) (fun a b => v (ix2 a b)) i j := by
  rw [att_apply]
  have hj : j.val / 64 < 8 := by omega
  have hs : ∀ n : Fin 128, (∑ c : Fin 512, q (ix2 i c) * (k (ix2 (⟨(n.val + 128 * (j.val / 64)) % 128, Nat.mod_lt _ (by omega)⟩ : Fin 128) c)
      * if c.val / 64 = (n.val + 128 * (j.val / 64)) / 128 then 1 else 0)) = ∑ e : Fin 64, q (ix2 i (col j e)) * k (ix2 n (col j e)) := fun n => by
    have hn : (⟨(n.val + 128 * (j.val / 64)) % 128, Nat.mod_lt _ (by omega)⟩ : Fin 128) = n := Fin.ext (by show (n.val + 128 * (j.val / 64)) % 128 = n.val; omega)
    have hd : (n.val + 128 * (j.val / 64)) / 128 = j.val / 64 := by omega
    rw [hn, hd]
    refine (sum_part 8 64 (fun c : Fin 512 => q (ix2 i c) * (k (ix2 n c) * if c.val / 64 = j.val / 64 then 1 else 0)) ⟨j.val / 64, hj⟩ ?_).trans
      (Finset.sum_congr rfl fun e _ => ?_)
    · intro c hc
      have hc' : ¬ c.val / 64 = j.val / 64 := hc
      simp only [if_neg hc', mul_zero]
    · have h1 : (col j e).val / 64 = j.val / 64 := by show (e.val + 64 * (j.val / 64)) / 64 = _; omega
      show q (ix2 i (col j e)) * (k (ix2 n (col j e)) * if (col j e).val / 64 = j.val / 64 then 1 else 0) = _
      rw [if_pos h1, mul_one]
  refine congrArg₂ Ideal.div ?_ ?_
  · refine (sum_part 8 128 (fun n : Fin 1024 => Ideal.exp (∑ c : Fin 512, q (ix2 i c) * (k (ix2 (⟨n.val % 128, Nat.mod_lt _ (by omega)⟩ : Fin 128) c) * if c.val / 64 = n.val / 128 then 1 else 0))
            * (v (ix2 (⟨n.val % 128, Nat.mod_lt _ (by omega)⟩ : Fin 128) j) * if n.val / 128 = j.val / 64 then 1 else 0)) ⟨j.val / 64, hj⟩ ?_).trans
      (Finset.sum_congr rfl fun n _ => ?_)
    · intro n hn
      have hn' : ¬ n.val / 128 = j.val / 64 := hn
      simp only [if_neg hn', mul_zero]
    · have hn : (⟨(n.val + 128 * (j.val / 64)) % 128, Nat.mod_lt _ (by omega)⟩ : Fin 128) = n := Fin.ext (by show (n.val + 128 * (j.val / 64)) % 128 = n.val; omega)
      refine congrArg₂ (· * ·) (congrArg Ideal.exp (hs n)) ?_
      show v (ix2 (⟨(n.val + 128 * (j.val / 64)) % 128, Nat.mod_lt _ (by omega)⟩ : Fin 128) j) * (if (n.val + 128 * (j.val / 64)) / 128 = j.val / 64 then (1 : EReal) else 0) = v (ix2 n j)
      rw [hn, if_pos (by omega), mul_one]
  · refine (sum_part 8 128 (fun n : Fin 1024 => Ideal.exp (∑ c : Fin 512, q (ix2 i c) * (k (ix2 (⟨n.val % 128, Nat.mod_lt _ (by omega)⟩ : Fin 128) c) * if c.val / 64 = n.val / 128 then 1 else 0))
            * (if n.val / 128 = j.val / 64 then 1 else 0)) ⟨j.val / 64, hj⟩ ?_).trans
      (Finset.sum_congr rfl fun n _ => ?_)
    · intro n hn
      have hn' : ¬ n.val / 128 = j.val / 64 := hn
      simp only [if_neg hn', mul_zero]
    · refine (congrArg₂ (· * ·) (congrArg Ideal.exp (hs n)) ?_).trans (mul_one _)
      show (if (n.val + 128 * (j.val / 64)) / 128 = j.val / 64 then (1 : EReal) else 0) = 1
      rw [if_pos (by omega)]

/-! ## The two halves of the product -/

/-- The rows of two blocks, one above the other. -/
theorem pay2_fst (a b : Vec Ideal S1x128x512 .bf16) (i : Fin 128) (k : Fin 512) (r : Fin 256) (hr : r.val = i.val) :
    k0_pay2 a b (ix2 r k) = a (ix3 (0 : Fin 1) i k) := by
  refine (concatenate_pair_apply_left (t := S256x512) (s₁ := S128x512) (s₂ := S128x512) 0 _ _ concatenates_S128x512_S128x512_S256x512_d0 (ix2 r k) rfl (ix2 i k) ?_).trans (shapeCast_1ab_ab_apply a _ i k)
  intro c
  match c with
  | ⟨0, _⟩ => exact hr.symm
  | ⟨1, _⟩ => rfl

theorem pay2_snd (a b : Vec Ideal S1x128x512 .bf16) (i : Fin 128) (k : Fin 512) (r : Fin 256) (hr : r.val = i.val + 128) :
    k0_pay2 a b (ix2 r k) = b (ix3 (0 : Fin 1) i k) := by
  refine (concatenate_pair_apply_right (t := S256x512) (s₁ := S128x512) (s₂ := S128x512) 0 _ _ concatenates_S128x512_S128x512_S256x512_d0 (ix2 r k) rfl rfl (ix2 i k) ?_ hr.symm).trans (shapeCast_1ab_ab_apply b _ i k)
  intro c hc
  match c with
  | ⟨0, _⟩ => exact absurd rfl hc
  | ⟨1, _⟩ => rfl

theorem head_congr {q q' k k' v v' : Fin 128 → Fin 512 → EReal} (hq : ∀ r s, q r s = q' r s) (hk : ∀ r s, k r s = k' r s)
    (hv : ∀ r s, v r s = v' r s) (i : Fin 128) (j : Fin 512) : head q k v i j = head q' k' v' i j := by
  obtain rfl : q = q' := funext₂ hq
  obtain rfl : k = k' := funext₂ hk
  obtain rfl : v = v' := funext₂ hv
  rfl

/-- The first rows of the product are those of the first block's attention. -/
theorem both_fst (q k v : FVec Ideal S256x512 .bf16) (wo : FVec Ideal S512x512 .bf16) (r : Fin 128 → Fin 256) (hr : ∀ i, (r i).val = i.val)
    (i : Fin 128) (c : Fin 512) :
    both q k v wo (ix2 (r i) c)
      = ∑ j : Fin 512, head (fun a b => q (ix2 (r a) b)) (fun a b => k (ix2 (r a) b)) (fun a b => v (ix2 (r a) b)) i j * wo (ix2 j c) := by
  refine (mm (M := 256) (K := 512) (N := 512) (φ₁ := .bf16) (φ₂ := .bf16) none _ _ (r i) c).trans (Finset.sum_congr rfl fun j _ => congrArg (· * wo (ix2 j c)) ?_)
  refine (concatenate_pair_apply_left (t := S256x512) (s₁ := S128x512) (s₂ := S128x512) 0 _ _ concatenates_S128x512_S128x512_S256x512_d0 (ix2 (r i) j) rfl (ix2 i j) ?_).trans ?_
  · intro c
    match c with
    | ⟨0, _⟩ => exact (hr i).symm
    | ⟨1, _⟩ => rfl
  refine (att_head _ _ _ i j).trans (head_congr (fun a b => ?_) (fun a b => ?_) (fun a b => ?_) i j) <;>
    exact slice2_axis0_apply 0 _ _ a b (r a) ((hr a).trans (Nat.zero_add _).symm)

/-- The last rows of the product are those of the second block's attention. -/
theorem both_snd (q k v : FVec Ideal S256x512 .bf16) (wo : FVec Ideal S512x512 .bf16) (r : Fin 128 → Fin 256) (hr : ∀ i, (r i).val = i.val + 128)
    (i : Fin 128) (c : Fin 512) :
    both q k v wo (ix2 (r i) c)
      = ∑ j : Fin 512, head (fun a b => q (ix2 (r a) b)) (fun a b => k (ix2 (r a) b)) (fun a b => v (ix2 (r a) b)) i j * wo (ix2 j c) := by
  refine (mm (M := 256) (K := 512) (N := 512) (φ₁ := .bf16) (φ₂ := .bf16) none _ _ (r i) c).trans (Finset.sum_congr rfl fun j _ => congrArg (· * wo (ix2 j c)) ?_)
  refine (concatenate_pair_apply_right (t := S256x512) (s₁ := S128x512) (s₂ := S128x512) 0 _ _ concatenates_S128x512_S128x512_S256x512_d0 (ix2 (r i) j) rfl rfl (ix2 i j) ?_ (hr i).symm).trans ?_
  · intro c hc
    match c with
    | ⟨0, _⟩ => exact absurd rfl hc
    | ⟨1, _⟩ => rfl
  refine (att_head _ _ _ i j).trans (head_congr (fun a b => ?_) (fun a b => ?_) (fun a b => ?_) i j) <;>
    exact slice2_axis0_apply 128 _ _ a b (r a) ((hr a).trans (Nat.add_comm _ _))

theorem pay16_eq (w : Vec Ideal S512x512 .f32) : k0_pay16 w = w := funext fun y => shapeCast_apply w _ y y rfl
theorem pay17_eq (w : Vec Ideal S512x512 .f32) : k0_pay17 w = w := funext fun y => shapeCast_apply w _ y y rfl
theorem pay18_eq (w : Vec Ideal S512x512 .f32) : k0_pay18 w = w := funext fun y => shapeCast_apply w _ y y rfl
theorem pay19_eq (w : Vec Ideal S512x512 .f32) : k0_pay19 w = w := funext fun y => shapeCast_apply w _ y y rfl

/-- Rows of two blocks' product with a weight. -/
theorem proj_apply (x2 : FVec Ideal S256x512 .bf16) (w : FVec Ideal S512x512 .bf16) (x : Fin 128 → Fin 512 → EReal) (r : Fin 128 → Fin 256)
    (hx : ∀ i k, x2 (ix2 (r i) k) = x i k) (i : Fin 128) (c : Fin 512) :
    matmul (F := Ideal) (DotDims.plain 256 512 512) none x2 w (constant S256x512 .f32 0x00000000#32) (ix2 (r i) c) = ∑ k, x i k * w (ix2 k c) :=
  (mm none x2 w (r i) c).trans (Finset.sum_congr rfl fun k _ => by rw [hx])

/-- The product's rows of the first block depend on the first block alone. -/
theorem pay6_apply (wq wk wv wo : Vec Ideal S512x512 .f32) (a b : Vec Ideal S1x128x512 .bf16) (i : Fin 128) (c : Fin 512) :
    k0_pay6 (k0_pay17 wk) (k0_pay18 wv) (k0_pay19 wo) (k0_pay24 k0_pay22 k0_pay23) k0_pay25 (k0_pay2 a b) (k0_pay3 (k0_pay16 wq) a b) k0_pay4 (ix2 i c)
      = contr (fun r s => wq (ix2 r s)) (fun r s => wk (ix2 r s)) (fun r s => wv (ix2 r s)) (fun r s => wo (ix2 r s))
          (fun r s => a (ix3 (0 : Fin 1) r s)) i c := by
  have hx : ∀ (i : Fin 128) (k : Fin 512), k0_pay2 a b (ix2 (⟨i.val, by omega⟩ : Fin 256) k) = a (ix3 (0 : Fin 1) i k) := fun i k =>
    pay2_fst a b i k _ rfl
  rw [pay16_eq, pay17_eq, pay18_eq, pay19_eq]
  unfold k0_pay6
  refine (slice2_axis0_apply 0 _ _ i c (⟨i.val, by omega⟩ : Fin 256) (Nat.zero_add _).symm).trans ?_
  rw [pay5_eq]
  refine (both_fst _ _ _ wo (fun i => ⟨i.val, by omega⟩) (fun _ => rfl) i c).trans (Finset.sum_congr rfl fun j _ => congrArg (· * wo (ix2 j c)) ?_)
  refine head_congr (fun r s => ?_) (fun r s => ?_) (fun r s => ?_) i j
  · exact congrArg (· * scl) (proj_apply (k0_pay2 a b) wq _ _ hx r s)
  · exact proj_apply (k0_pay2 a b) wk _ _ hx r s
  · exact proj_apply (k0_pay2 a b) wv _ _ hx r s

/-- The product's rows of the second block depend on the second block alone. -/
theorem pay7_apply (wq wk wv wo : Vec Ideal S512x512 .f32) (a b : Vec Ideal S1x128x512 .bf16) (i : Fin 128) (c : Fin 512) :
    k0_pay7 (k0_pay17 wk) (k0_pay18 wv) (k0_pay19 wo) (k0_pay24 k0_pay22 k0_pay23) k0_pay25 (k0_pay2 a b) (k0_pay3 (k0_pay16 wq) a b) k0_pay4 (ix2 i c)
      = contr (fun r s => wq (ix2 r s)) (fun r s => wk (ix2 r s)) (fun r s => wv (ix2 r s)) (fun r s => wo (ix2 r s))
          (fun r s => b (ix3 (0 : Fin 1) r s)) i c := by
  have hx : ∀ (i : Fin 128) (k : Fin 512), k0_pay2 a b (ix2 (⟨i.val + 128, by omega⟩ : Fin 256) k) = b (ix3 (0 : Fin 1) i k) := fun i k =>
    pay2_snd a b i k _ rfl
  rw [pay16_eq, pay17_eq, pay18_eq, pay19_eq]
  unfold k0_pay7
  refine (slice2_axis0_apply 128 _ _ i c (⟨i.val + 128, by omega⟩ : Fin 256) (Nat.add_comm _ _)).trans ?_
  rw [pay5_eq]
  refine (both_snd _ _ _ wo (fun i => ⟨i.val + 128, by omega⟩) (fun _ => rfl) i c).trans (Finset.sum_congr rfl fun j _ => congrArg (· * wo (ix2 j c)) ?_)
  refine head_congr (fun r s => ?_) (fun r s => ?_) (fun r s => ?_) i j
  · exact congrArg (· * scl) (proj_apply (k0_pay2 a b) wq _ _ hx r s)
  · exact proj_apply (k0_pay2 a b) wk _ _ hx r s
  · exact proj_apply (k0_pay2 a b) wv _ _ hx r s

end Cert.Ring

end
-- ==== Proof.Sum.lean ====
module

public import proofs.«01_k».proof.Proof.Frames
public import proofs.«01_k».proof.Proof.Block

@[expose] public section

/-! What the run leaves in the result array: the sum over all the devices of their contributions to a device's own rows. -/

noncomputable section

namespace Cert.Ring

open Cert.KernelIdeal Cert.KernelIdeal.Gen
open Idealize.ShloMosaic Idealize.ShloMosaic.ValueIdx
open Idealize.ShloMosaic.TcCoe
open Idealize.SL.Sem
open scoped BigOperators

variable (m : (ℓ : Loc nD τ sig) → Buf (Elt Ideal) ℓ) (ρ : Dev nD → PrngReg)

/-! ## The activations that are in a slot -/

/-- The batch that travels in a direction. -/
abbrev bi (d : Bool) : Fin 2 := bif d then 1 else 0
/-- The rows of a device's own batch. -/
def xr (d : Bool) (c : Dev nD) : Fin 128 → Fin 512 → EReal := fun i k => xin m ρ c (ix3 (bi d) i k)

theorem pay20_apply (v : Vec Ideal S1x128x512 .f32) (i : Fin 128) (k : Fin 512) : k0_pay20 v (ix3 (0 : Fin 1) i k) = v (ix3 (0 : Fin 1) i k) := by
  unfold k0_pay20
  refine (shapeCast_ab_1ab_apply (truncf .bf16 (shapeCast S128x512 v shapeCasts_S1x128x512_S128x512 : FVec Ideal S128x512 .f32) bitsLt_bf16_f32) shapeCasts_S128x512_S1x128x512 0 i k).trans ?_
  exact shapeCast_1ab_ab_apply v shapeCasts_S1x128x512_S128x512 i k
theorem pay21_apply (v : Vec Ideal S1x128x512 .f32) (i : Fin 128) (k : Fin 512) : k0_pay21 v (ix3 (0 : Fin 1) i k) = v (ix3 (0 : Fin 1) i k) := by
  unfold k0_pay21
  refine (shapeCast_ab_1ab_apply (truncf .bf16 (shapeCast S128x512 v shapeCasts_S1x128x512_S128x512 : FVec Ideal S128x512 .f32) bitsLt_bf16_f32) shapeCasts_S128x512_S1x128x512 0 i k).trans ?_
  exact shapeCast_1ab_ab_apply v shapeCasts_S1x128x512_S128x512 i k

/-- A device's first slot holds its own batch. -/
theorem X_zero (d : Bool) (c : Dev nD) (i : Fin 128) (k : Fin 512) : X m ρ d 0 c (ix3 (0 : Fin 1) i k) = xr m ρ d c i k := by
  cases d
  · refine (pay20_apply (fun y => xin m ρ c ((Rect.unit (s := S2x128x512) ![0, 0, 0] S1x128x512.size inb_S2x128x512_S1x128x512_0_0_0).emb y)) i k).trans ?_
    refine congrArg (xin m ρ c) (funext fun a => Fin.ext ?_)
    match a with
    | ⟨0, _⟩ => rfl
    | ⟨1, _⟩ => show 0 + 1 * i.val = i.val; omega
    | ⟨2, _⟩ => show 0 + 1 * k.val = k.val; omega
  · refine (pay21_apply (fun y => xin m ρ c ((Rect.unit (s := S2x128x512) ![1, 0, 0] S1x128x512.size inb_S2x128x512_S1x128x512_1_0_0).emb y)) i k).trans ?_
    refine congrArg (xin m ρ c) (funext fun a => Fin.ext ?_)
    match a with
    | ⟨0, _⟩ => rfl
    | ⟨1, _⟩ => show 0 + 1 * i.val = i.val; omega
    | ⟨2, _⟩ => show 0 + 1 * k.val = k.val; omega

/-- Slot `k` holds what the device `k` places back had. -/
theorem X_iter (d : Bool) : ∀ (k : ℕ) (c : Dev nD), X m ρ d k c = X m ρ d 0 ((prv d)^[k] c)
  | 0, _ => rfl
  | k + 1, c => X_iter d k (prv d c)

/-! ## The sums -/

/-- What device `e` adds to the rows `x`. -/
def adds (e : Dev nD) (x : Fin 128 → Fin 512 → EReal) : Fin 128 → Fin 512 → EReal :=
  contr (fun r s => wq m ρ e (ix2 r s)) (fun r s => wk m ρ e (ix2 r s)) (fun r s => wv m ρ e (ix2 r s)) (fun r s => wo m ρ e (ix2 r s)) x

theorem C_apply (d : Bool) (k : ℕ) (c : Dev nD) (i : Fin 128) (s : Fin 512) :
    C m ρ d k c (ix2 i s) = adds m ρ c (xr m ρ d ((prv d)^[k] c)) i s := by
  have hx : ∀ d, (fun r s => X m ρ d k c (ix3 (0 : Fin 1) r s)) = xr m ρ d ((prv d)^[k] c) := fun d => funext₂ fun r s => by
    rw [X_iter, X_zero]
  unfold adds
  rw [← hx d]
  cases d
  · exact pay6_apply (wq m ρ c) (wk m ρ c) (wv m ρ c) (wo m ρ c) (X m ρ false k c) (X m ρ true k c) i s
  · exact pay7_apply (wq m ρ c) (wk m ρ c) (wv m ρ c) (wo m ρ c) (X m ρ false k c) (X m ρ true k c) i s

/-- Row `r` of a half. -/
abbrev hrow (h : Bool) (r : Fin 64) : Fin 128 := ⟨row h + r.val, by cases h <;> (dsimp only [row]; omega)⟩

theorem pay9_apply (v : FVec Ideal S128x512 .f32) (r : Fin 64) (s : Fin 512) : k0_pay9 v (ix3 (0 : Fin 1) r s) = v (ix2 (hrow false r) s) :=
  (shapeCast_ab_1ab_apply _ _ 0 r s).trans (slice2_axis0_apply 0 v slices_S128x512_o0_0_S64x512 r s (hrow false r) rfl)
theorem pay13_apply (v : FVec Ideal S128x512 .f32) (r : Fin 64) (s : Fin 512) : k0_pay13 v (ix3 (0 : Fin 1) r s) = v (ix2 (hrow true r) s) :=
  (shapeCast_ab_1ab_apply _ _ 0 r s).trans (slice2_axis0_apply 64 v slices_S128x512_o64_0_S64x512 r s (hrow true r) rfl)
theorem pay10_apply (v : FVec Ideal S128x512 .f32) (u : Vec Ideal S1x64x512 .bf16) (r : Fin 64) (s : Fin 512) :
    k0_pay10 v u (ix3 (0 : Fin 1) r s) = v (ix2 (hrow false r) s) + u (ix3 (0 : Fin 1) r s) := by
  have h1 := slice2_axis0_apply 0 v slices_S128x512_o0_0_S64x512 r s (hrow false r) rfl
  have h2 := shapeCast_1ab_ab_apply u shapeCasts_S1x64x512_S64x512 r s
  rw [← h1, ← h2]
  unfold k0_pay10
  exact shapeCast_ab_1ab_apply (truncf .bf16 (addf (extractStridedSlice S64x512 ![0, 0] v slices_S128x512_o0_0_S64x512)
    (extf .f32 (shapeCast S64x512 u shapeCasts_S1x64x512_S64x512 : FVec Ideal S64x512 .bf16) bitsLt_bf16_f32)) bitsLt_bf16_f32) shapeCasts_S64x512_S1x64x512 0 r s
theorem pay12_apply (v : FVec Ideal S128x512 .f32) (u : Vec Ideal S1x64x512 .bf16) (r : Fin 64) (s : Fin 512) :
    k0_pay12 v u (ix3 (0 : Fin 1) r s) = v (ix2 (hrow true r) s) + u (ix3 (0 : Fin 1) r s) := by
  have h1 := slice2_axis0_apply 64 v slices_S128x512_o64_0_S64x512 r s (hrow true r) rfl
  have h2 := shapeCast_1ab_ab_apply u shapeCasts_S1x64x512_S64x512 r s
  rw [← h1, ← h2]
  unfold k0_pay12
  exact shapeCast_ab_1ab_apply (truncf .bf16 (addf (extractStridedSlice S64x512 ![64, 0] v slices_S128x512_o64_0_S64x512)
    (extf .f32 (shapeCast S64x512 u shapeCasts_S1x64x512_S64x512 : FVec Ideal S64x512 .bf16) bitsLt_bf16_f32)) bitsLt_bf16_f32) shapeCasts_S64x512_S1x64x512 0 r s

/-- The partial sum in slot `k` is that of the last `k + 1` devices' contributions to the rows that have come `k` places. -/
theorem A_apply (d h : Bool) (r : Fin 64) (s : Fin 512) : ∀ (k : ℕ) (c : Dev nD),
    A m ρ d h k c (ix3 (0 : Fin 1) r s)
      = ∑ t ∈ Finset.range (k + 1), adds m ρ ((prv d)^[t] c) (xr m ρ d ((prv d)^[k] c)) (hrow h r) s
  | 0, c => by
    rw [Finset.sum_range_one]
    refine Eq.trans ?_ (C_apply m ρ d 0 c (hrow h r) s)
    cases h
    · exact pay9_apply _ r s
    · exact pay13_apply _ r s
  | k + 1, c => by
    rw [Finset.sum_range_succ']
    refine Eq.trans ?_ (add_comm _ _)
    have hA := A_apply d h r s k (prv d c)
    refine Eq.trans ?_ (congrArg₂ (· + ·) (C_apply m ρ d (k + 1) c (hrow h r) s) hA)
    cases h
    · exact pay10_apply _ _ r s
    · exact pay12_apply _ _ r s

/-- Sixteen places back around the ring is home. -/
theorem home : ∀ (d : Bool) (c : Dev nD), (prv d)^[15] (prv d c) = c := by decide +kernel

theorem once : ∀ (d : Bool) (c : Dev nD) (t u : Fin 16), (prv d)^[t.val] (prv d c) = (prv d)^[u.val] (prv d c) → t = u := by decide +kernel

/-- Going round the ring once meets every device once. -/
theorem sum_ring {M : Type*} [AddCommMonoid M] (d : Bool) (c : Dev nD) (f : Dev nD → M) :
    ∑ t ∈ Finset.range 16, f ((prv d)^[t] (prv d c)) = ∑ e : Dev nD, f e := by
  rw [Finset.sum_range]
  have hi : Function.Injective (fun t : Fin 16 => ((prv d)^[t.val] (prv d c) : Dev nD)) := fun t u h => once d c t u h
  have hb : Function.Bijective (fun t : Fin 16 => ((prv d)^[t.val] (prv d c) : Dev nD)) :=
    (Fintype.bijective_iff_injective_and_card _).2 ⟨hi, rfl⟩
  exact hb.sum_comp f

/-- What comes home is the sum of all the devices' contributions to a device's own batch. -/
theorem A_home (d h : Bool) (c : Dev nD) (r : Fin 64) (s : Fin 512) :
    A m ρ d h 15 (prv d c) (ix3 (0 : Fin 1) r s) = ∑ e : Dev nD, adds m ρ e (xr m ρ d c) (hrow h r) s := by
  rw [A_apply, home]
  exact sum_ring d c fun e => adds m ρ e (xr m ρ d c) (hrow h r) s

theorem finAt_apply (d : Bool) (c : Dev nD) (i : Fin 128) (s : Fin 512) :
    finAt m ρ d c (ix2 i s) = ∑ e : Dev nD, adds m ρ e (xr m ρ d c) i s := by
  haveI : Nonempty (Elt Ideal .bf16) := elt_nonempty .bf16
  have main : ∀ (h : Bool) (r : Fin 64), finAt m ρ d c (ix2 (hrow h r) s) = ∑ e : Dev nD, adds m ρ e (xr m ρ d c) (hrow h r) s := fun h r => by
    have he : (ix2 (hrow h r) s : S128x512.Idx) = (Rect.unit (s := S128x512) ![row h, 0] S64x512.size (finb h)).emb (ix2 r s) :=
      funext fun a => Fin.ext (by
        match a with
        | ⟨0, _⟩ => show row h + r.val = row h + 1 * r.val; omega
        | ⟨1, _⟩ => show s.val = 0 + 1 * s.val; omega)
    rw [he]
    refine (glue_emb _ _ fhalf_key (fun b => flat (A m ρ d b 15 (prv d c))) h (ix2 r s)).trans ?_
    refine Eq.trans ?_ (A_home m ρ d h c r s)
    exact congrArg (A m ρ d h 15 (prv d c)) (reshapeEquiv_ix2_1ab _ r s)
  rcases Nat.lt_or_ge i.val 64 with hi | hi
  · have := main false ⟨i.val, hi⟩
    rwa [show hrow false ⟨i.val, hi⟩ = i from Fin.ext (Nat.zero_add _)] at this
  · have := main true ⟨i.val - 64, by omega⟩
    rwa [show hrow true ⟨i.val - 64, by omega⟩ = i from Fin.ext (Nat.add_sub_cancel' hi)] at this

theorem pay1_apply (v : Vec Ideal S128x512 .bf16) (i : Fin 128) (s : Fin 512) : k0_pay1 v (ix3 (0 : Fin 1) i s) = v (ix2 i s) := by
  unfold k0_pay1
  exact shapeCast_ab_1ab_apply (extf .f32 v bitsLt_bf16_f32 : FVec Ideal S128x512 .f32) shapeCasts_S128x512_S1x128x512 0 i s
theorem pay40_apply (v : Vec Ideal S128x512 .bf16) (i : Fin 128) (s : Fin 512) : k0_pay40 v (ix3 (0 : Fin 1) i s) = v (ix2 i s) := by
  unfold k0_pay40
  exact shapeCast_ab_1ab_apply (extf .f32 v bitsLt_bf16_f32 : FVec Ideal S128x512 .f32) shapeCasts_S128x512_S1x128x512 0 i s

theorem outAt_apply (d : Bool) (c : Dev nD) (i : Fin 128) (s : Fin 512) :
    outAt m ρ c (ix3 (bi d) i s) = ∑ e : Dev nD, adds m ρ e (xr m ρ d c) i s := by
  haveI : Nonempty (Elt Ideal .f32) := elt_nonempty .f32
  have he : (ix3 (bi d) i s : S2x128x512.Idx) = (Rect.unit (s := S2x128x512) ![b2n d, 0, 0] S1x128x512.size (oinb d)).emb (ix3 (0 : Fin 1) i s) :=
    funext fun a => Fin.ext (by
      match a with
      | ⟨0, _⟩ => cases d <;> rfl
      | ⟨1, _⟩ => show i.val = 0 + 1 * i.val; omega
      | ⟨2, _⟩ => show s.val = 0 + 1 * s.val; omega)
  rw [he]
  refine (glue_emb _ _ out_key (fun b => bif b then k0_pay1 (finAt m ρ true c) else k0_pay40 (finAt m ρ false c)) d (ix3 (0 : Fin 1) i s)).trans ?_
  refine Eq.trans ?_ (finAt_apply m ρ d c i s)
  cases d
  · exact pay40_apply (finAt m ρ false c) i s
  · exact pay1_apply (finAt m ρ true c) i s

/-! ## The arrays -/

theorem xin_eq (c : Dev nD) : xin m ρ c = m ((c.tc : Thread nD τ).loc main_arg0) :=
  Memref.read_access_unit_zero (Elt Ideal) main_arg0 (funext fun a => by fin_cases a <;> decide) (fun a => by fin_cases a <;> decide) _
theorem wq_eq (c : Dev nD) : wq m ρ c = m ((c.tc : Thread nD τ).loc main_arg1) :=
  Memref.read_access_unit_zero (Elt Ideal) main_arg1 (funext fun a => by fin_cases a <;> decide) (fun a => by fin_cases a <;> decide) _
theorem wo_eq (c : Dev nD) : wo m ρ c = m ((c.tc : Thread nD τ).loc main_arg2) :=
  Memref.read_access_unit_zero (Elt Ideal) main_arg2 (funext fun a => by fin_cases a <;> decide) (fun a => by fin_cases a <;> decide) _
theorem wk_eq (c : Dev nD) : wk m ρ c = m ((c.tc : Thread nD τ).loc main_arg3) :=
  Memref.read_access_unit_zero (Elt Ideal) main_arg3 (funext fun a => by fin_cases a <;> decide) (fun a => by fin_cases a <;> decide) _
theorem wv_eq (c : Dev nD) : wv m ρ c = m ((c.tc : Thread nD τ).loc main_arg4) :=
  Memref.read_access_unit_zero (Elt Ideal) main_arg4 (funext fun a => by fin_cases a <;> decide) (fun a => by fin_cases a <;> decide) _

/-- After the run the result array holds the result block. -/
theorem finalA_out (c : Dev nD) : finalA m ρ c (5 : Fin 6) = outAt m ρ c := by
  have h : (win0_5.blk (0 : Fin 1)).view.read (Elt Ideal) (finalA m ρ c (5 : Fin 6)) = outAt m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  refine Eq.trans (Eq.symm ?_) h
  exact Memref.read_access_unit_zero (Elt Ideal) main_v1 (funext fun a => by fin_cases a <;> decide) (fun a => by fin_cases a <;> decide) _

end Cert.Ring

end
-- ==== Proof.Ref.lean ====
module

public import proofs.«01_k».proof.Proof.Block
public import proofs.«01_k».proof.Proof.Gen.ReferenceIdeal.Run
public import Idealize.ShloMosaic.Lib.Pointwise.Reduce

@[expose] public section

/-! The reference's result read at an index. -/

noncomputable section

namespace Cert.Ref

open Cert.ReferenceIdeal Cert.ReferenceIdeal.Gen
open Idealize.ShloMosaic hiding ix1 ix2 ix3 ix4
open Idealize.ShloMosaic.ValueIdx
open scoped BigOperators

/-! ## The reference in stages -/

/-- A projection of the activations, its columns cut into heads. -/
def prj (x : FVec Ideal S32x128x512 .f32) (w : FVec Ideal S512x8192 .f32) : FVec Ideal S32x128x128x64 .f32 :=
  shapeCast S32x128x128x64 (Host.dotGeneral dot_S32x128x512_S512x8192_S32x128x8192_2_0_01_1_n_n none x w : FVec Ideal S32x128x8192 .f32) shapeCasts_S32x128x8192_S32x128x128x64

/-- The scaled scores. -/
def scr (q k : FVec Ideal S32x128x128x64 .f32) : FVec Ideal S32x128x128x128 .f32 :=
  mulf (Host.dotGeneral dot_S32x128x128x64_S32x128x128x64_S32x128x128x128_3_3_1_1_02_02 none q k)
    (broadcastInDim S32x128x128x128 ![] bcast_S_S32x128x128x128 (constant S_ .f32 0x3E000000#32))

/-- Minus infinity, once for each row of scores. -/
def low : FVec Ideal S32x128x128x1 .f32 := broadcastInDim S32x128x128x1 ![] bcast_S_S32x128x128x1 (constant S_ .f32 0xFF800000#32)

/-- The largest score of each row. -/
def top (s : FVec Ideal S32x128x128x128 .f32) : FVec Ideal S32x128x128x1 .f32 :=
  maximumf low (broadcastInDim S32x128x128x1 ![0, 1, 2] bcast_S32x128x128_S32x128x128x1_0_1_2
    (Host.reduce FloatOps.maximumf s (constant S_ .f32 0xFF800000#32) reducesTo_S32x128x128x128_S32x128x128_d3 h_S_))

/-- The factor of the sums that were there before, of which there are none. -/
def alp (t : FVec Ideal S32x128x128x1 .f32) : FVec Ideal S32x128x128x1 .f32 := Host.exp (subf low t)

/-- The exponentials of the scores less their row's largest. -/
def wts (s : FVec Ideal S32x128x128x128 .f32) (t : FVec Ideal S32x128x128x1 .f32) : FVec Ideal S32x128x128x128 .f32 :=
  Host.exp (subf s (broadcastInDim S32x128x128x128 ![0, 1, 2, 3] bcast_S32x128x128x1_S32x128x128x128_0_1_2_3 t))

/-- Their sums. -/
def den (a : FVec Ideal S32x128x128x1 .f32) (p : FVec Ideal S32x128x128x128 .f32) : FVec Ideal S32x128x128x1 .f32 :=
  addf (mulf (broadcastInDim S32x128x128x1 ![] bcast_S_S32x128x128x1 (constant S_ .f32 0x00000000#32)) a)
    (broadcastInDim S32x128x128x1 ![0, 1, 2] bcast_S32x128x128_S32x128x128x1_0_1_2
      (Host.reduceAdd p (constant S_ .f32 0x00000000#32) reducesTo_S32x128x128x128_S32x128x128_d3 h_S_))

/-- The values weighted with them. -/
def num (a : FVec Ideal S32x128x128x1 .f32) (p : FVec Ideal S32x128x128x128 .f32) (v : FVec Ideal S32x128x128x64 .f32) : FVec Ideal S32x128x128x64 .f32 :=
  addf (mulf (broadcastInDim S32x128x128x64 ![] bcast_S_S32x128x128x64 (constant S_ .f32 0x00000000#32))
      (broadcastInDim S32x128x128x64 ![0, 1, 2, 3] bcast_S32x128x128x1_S32x128x128x64_0_1_2_3
        (transpose S32x128x128x1 [0, 2, 1, 3] a transposes_S32x128x128x1_S32x128x128x1_0_2_1_3)))
    (transpose S32x128x128x64 [0, 3, 1, 2]
      (Host.dotGeneral dot_S32x128x128x64_S32x128x128x128_S32x128x64x128_1_3_3_2_02_01 none v p : FVec Ideal S32x128x64x128 .f32)
      transposes_S32x128x64x128_S32x128x128x64_0_3_1_2)

/-- The attention. -/
def atn (a : FVec Ideal S32x128x128x1 .f32) (p : FVec Ideal S32x128x128x128 .f32) (v : FVec Ideal S32x128x128x64 .f32) : FVec Ideal S32x128x8192 .f32 :=
  shapeCast S32x128x8192 (Host.divf (num a p v)
    (broadcastInDim S32x128x128x64 ![0, 1, 2, 3] bcast_S32x128x128x1_S32x128x128x64_0_1_2_3
      (transpose S32x128x128x1 [0, 2, 1, 3] (den a p) transposes_S32x128x128x1_S32x128x128x1_0_2_1_3)) : FVec Ideal S32x128x128x64 .f32)
    shapeCasts_S32x128x128x64_S32x128x8192

/-- The attention of the activations under the three projections. -/
def atx (x : FVec Ideal S32x128x512 .f32) (wq wk wv : FVec Ideal S512x8192 .f32) : FVec Ideal S32x128x8192 .f32 :=
  atn (alp (top (scr (prj x wq) (prj x wk)))) (wts (scr (prj x wq) (prj x wk)) (top (scr (prj x wq) (prj x wk)))) (prj x wv)

set_option maxRecDepth 8192 in
/-- The reference's result is the product of that attention with the last weight. -/
theorem res_eq (m : (ℓ : Loc nD τ sig) → Buf (Elt Ideal) ℓ) (c : Dev nD) :
    Cert.ReferenceIdeal.Value.res_main_v34 m c
      = (Host.dotGeneral (F := Ideal) (φ₁ := .f32) (φ₂ := .f32) dot_S32x128x8192_S8192x512_S32x128x512_2_0_01_1_n_n none
          (atx (m ((c.tc : Thread nD τ).loc main_arg0)) (m ((c.tc : Thread nD τ).loc main_arg1)) (m ((c.tc : Thread nD τ).loc main_arg3)) (m ((c.tc : Thread nD τ).loc main_arg4)))
          (m ((c.tc : Thread nD τ).loc main_arg2)) : FVec Ideal S32x128x512 .f32) := rfl

/-! ## The products at an index -/

theorem proj_dot (x : FVec Ideal S32x128x512 .f32) (w : FVec Ideal S512x8192 .f32) (b : Fin 32) (i : Fin 128) (J : Fin 8192) :
    (Host.dotGeneral dot_S32x128x512_S512x8192_S32x128x8192_2_0_01_1_n_n none x w : FVec Ideal S32x128x8192 .f32) (ix3 b i J)
      = ∑ k : Fin 512, x (ix3 b i k) * w (ix2 k J) := by
  refine (Ideal.dotGeneral_apply _ _ _ x w (ix3 b i J)).trans ?_
  have hr : dot_S32x128x512_S512x8192_S32x128x8192_2_0_01_1_n_n.contr.rank = 1 := rfl
  rw [← Equiv.sum_comp (contrEquiv1 _ 512 hr rfl).symm]
  refine Finset.sum_congr rfl fun k _ => ?_
  have hk := contrEquiv1_symm_val dot_S32x128x512_S512x8192_S32x128x8192_2_0_01_1_n_n 512 hr rfl k
  refine congrArg₂ (· * ·) (congrArg x (funext fun a => Fin.ext ?_)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

theorem last_dot (a : FVec Ideal S32x128x8192 .f32) (w : FVec Ideal S8192x512 .f32) (b : Fin 32) (i : Fin 128) (c : Fin 512) :
    (Host.dotGeneral dot_S32x128x8192_S8192x512_S32x128x512_2_0_01_1_n_n none a w : FVec Ideal S32x128x512 .f32) (ix3 b i c)
      = ∑ J : Fin 8192, a (ix3 b i J) * w (ix2 J c) := by
  refine (Ideal.dotGeneral_apply _ _ _ a w (ix3 b i c)).trans ?_
  have hr : dot_S32x128x8192_S8192x512_S32x128x512_2_0_01_1_n_n.contr.rank = 1 := rfl
  rw [← Equiv.sum_comp (contrEquiv1 _ 8192 hr rfl).symm]
  refine Finset.sum_congr rfl fun k _ => ?_
  have hk := contrEquiv1_symm_val dot_S32x128x8192_S8192x512_S32x128x512_2_0_01_1_n_n 8192 hr rfl k
  refine congrArg₂ (· * ·) (congrArg a (funext fun a => Fin.ext ?_)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

theorem score_dot (q k : FVec Ideal S32x128x128x64 .f32) (b : Fin 32) (h i n : Fin 128) :
    (Host.dotGeneral dot_S32x128x128x64_S32x128x128x64_S32x128x128x128_3_3_1_1_02_02 none q k : FVec Ideal S32x128x128x128 .f32) (ix4 b h i n)
      = ∑ e : Fin 64, q (ix4 b i h e) * k (ix4 b n h e) := by
  refine (Ideal.dotGeneral_apply _ _ _ q k (ix4 b h i n)).trans ?_
  have hr : dot_S32x128x128x64_S32x128x128x64_S32x128x128x128_3_3_1_1_02_02.contr.rank = 1 := rfl
  rw [← Equiv.sum_comp (contrEquiv1 _ 64 hr rfl).symm]
  refine Finset.sum_congr rfl fun e _ => ?_
  have hk := contrEquiv1_symm_val dot_S32x128x128x64_S32x128x128x64_S32x128x128x128_3_3_1_1_02_02 64 hr rfl e
  refine congrArg₂ (· * ·) (congrArg q (funext fun a => Fin.ext ?_)) (congrArg k (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => exact hk

theorem value_dot (v : FVec Ideal S32x128x128x64 .f32) (p : FVec Ideal S32x128x128x128 .f32) (b : Fin 32) (h : Fin 128) (e : Fin 64) (i : Fin 128) :
    (Host.dotGeneral dot_S32x128x128x64_S32x128x128x128_S32x128x64x128_1_3_3_2_02_01 none v p : FVec Ideal S32x128x64x128 .f32) (ix4 b h e i)
      = ∑ n : Fin 128, v (ix4 b n h e) * p (ix4 b h i n) := by
  refine (Ideal.dotGeneral_apply _ _ _ v p (ix4 b h e i)).trans ?_
  have hr : dot_S32x128x128x64_S32x128x128x128_S32x128x64x128_1_3_3_2_02_01.contr.rank = 1 := rfl
  rw [← Equiv.sum_comp (contrEquiv1 _ 128 hr rfl).symm]
  refine Finset.sum_congr rfl fun n _ => ?_
  have hk := contrEquiv1_symm_val dot_S32x128x128x64_S32x128x128x128_S32x128x64x128_1_3_3_2_02_01 128 hr rfl n
  refine congrArg₂ (· * ·) (congrArg v (funext fun a => Fin.ext ?_)) (congrArg p (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-! ## The stages at an index -/

theorem zero_word : Ideal.ofBits .f32 0x00000000#32 = 0 := by simp [Ideal.ofBits, Ideal.ieee]
theorem low_word : Ideal.ofBits .f32 0xFF800000#32 = ⊥ := by simp [Ideal.ofBits, Ideal.ieee]
/-- The scale of the scores is a real. -/
theorem scl_real : ∃ t : ℝ, Cert.Ring.scl = t := by
  unfold Cert.Ring.scl
  simp only [Ideal.ofBits, Ideal.ieee]
  simp
  exact ⟨_, (EReal.coe_mul _ _).symm⟩

/-- Column `e` of head `h`. -/
def hcol (h : Fin 128) (e : Fin 64) : Fin 8192 := ⟨e.val + 64 * h.val, by omega⟩

theorem prj_apply (x : FVec Ideal S32x128x512 .f32) (w : FVec Ideal S512x8192 .f32) (b : Fin 32) (i h : Fin 128) (e : Fin 64) :
    prj x w (ix4 b i h e) = ∑ k : Fin 512, x (ix3 b i k) * w (ix2 k (hcol h e)) := by
  refine (shapeCast_apply _ _ _ (ix3 b i (hcol h e)) ?_).trans (proj_dot x w b i (hcol h e))
  rw [Shape.rowMajor_val_three, Shape.rowMajor_val_four]
  show (b.val * 128 + i.val) * 8192 + (e.val + 64 * h.val) = ((b.val * 128 + i.val) * 128 + h.val) * 64 + e.val
  omega

theorem scr_apply (q k : FVec Ideal S32x128x128x64 .f32) (b : Fin 32) (h i n : Fin 128) :
    scr q k (ix4 b h i n) = (∑ e : Fin 64, q (ix4 b i h e) * k (ix4 b n h e)) * Cert.Ring.scl :=
  congrArg₂ (· * ·) (score_dot q k b h i n) (broadcastInDim_scalar_apply _ _ _)

theorem low_apply (y : S32x128x128x1.Idx) : low y = ⊥ := (broadcastInDim_scalar_apply _ _ _).trans low_word

/-- A fold of the maximum over reals that meets an element is a real. -/
theorem fold_real {s t u : Shape} {axes : List (Fin s.rank)} (h : s.ReducesTo axes t) (hu : 0 < u.numel) (x : FVec Ideal s .f32) (init : FVec Ideal u .f32)
    (hi : init (Shape.Idx.first hu) = ⊥) (hx : ∀ y, ∃ r : ℝ, x y = r) (j : t.Idx) (y : s.Idx) (hy : h.drop y = j) :
    ∃ M : ℝ, Host.reduce FloatOps.maximumf x init h hu j = M := by
  rw [Host.reduce_eq_foldl, hi]
  exact Cert.Ring.foldl_max_real _ (List.ne_nil_of_mem (List.mem_filter.2
    ⟨List.mem_map.2 ⟨s.rowMajor y, List.mem_finRange _, Equiv.symm_apply_apply _ _⟩, decide_eq_true hy⟩)) x hx

theorem drop_last (b : Fin 32) (h i n : Fin 128) :
    (reducesTo_S32x128x128x128_S32x128x128_d3).drop (ix4 b h i n : S32x128x128x128.Idx) = (ix3 b h i : S32x128x128.Idx) := by
  funext a
  match a with
  | ⟨0, _⟩ => rfl
  | ⟨1, _⟩ => rfl
  | ⟨2, _⟩ => rfl

/-- The largest of a row of reals is a real. -/
theorem top_real (s : FVec Ideal S32x128x128x128 .f32) (hs : ∀ y, ∃ r : ℝ, s y = r) (b : Fin 32) (h i : Fin 128) :
    ∃ M : ℝ, top s (ix4 b h i (0 : Fin 1)) = M := by
  obtain ⟨M, hM⟩ := fold_real reducesTo_S32x128x128x128_S32x128x128_d3 h_S_ s (constant S_ .f32 0xFF800000#32) low_word hs (ix3 b h i)
    (ix4 b h i (0 : Fin 128)) (drop_last b h i 0)
  have hb : (broadcastInDim S32x128x128x1 ![0, 1, 2] bcast_S32x128x128_S32x128x128x1_0_1_2
      (Host.reduce FloatOps.maximumf s (constant S_ .f32 0xFF800000#32) reducesTo_S32x128x128x128_S32x128x128_d3 h_S_ : FVec Ideal S32x128x128 .f32)) (ix4 b h i (0 : Fin 1))
        = M := by
    refine (broadcastInDim_apply _ _ _ _ (ix3 b h i) fun a => ?_).trans hM
    match a with
    | ⟨0, _⟩ => rfl
    | ⟨1, _⟩ => rfl
    | ⟨2, _⟩ => rfl
  refine ⟨M, (maximumf_apply _ _ _).trans ?_⟩
  rw [low_apply, hb]
  exact bot_sup_eq _

theorem wts_apply (s : FVec Ideal S32x128x128x128 .f32) (t : FVec Ideal S32x128x128x1 .f32) (b : Fin 32) (h i n : Fin 128) :
    wts s t (ix4 b h i n) = Ideal.exp (s (ix4 b h i n) - t (ix4 b h i (0 : Fin 1))) := by
  refine congrArg (fun z => Ideal.exp (s (ix4 b h i n) - z)) (broadcastInDim_apply _ _ _ _ (ix4 b h i (0 : Fin 1)) fun a => ?_)
  match a with
  | ⟨0, _⟩ => rfl
  | ⟨1, _⟩ => rfl
  | ⟨2, _⟩ => rfl
  | ⟨3, _⟩ => rfl

theorem den_apply (a : FVec Ideal S32x128x128x1 .f32) (p : FVec Ideal S32x128x128x128 .f32) (b : Fin 32) (h i : Fin 128) :
    den a p (ix4 b h i (0 : Fin 1)) = ∑ n : Fin 128, p (ix4 b h i n) := by
  have h1 : (broadcastInDim S32x128x128x1 ![] bcast_S_S32x128x128x1 (constant S_ .f32 0x00000000#32 : FVec Ideal S_ .f32)) (ix4 b h i (0 : Fin 1)) = 0 :=
    (broadcastInDim_scalar_apply _ _ _).trans zero_word
  have h2 : (broadcastInDim S32x128x128x1 ![0, 1, 2] bcast_S32x128x128_S32x128x128x1_0_1_2
      (Host.reduceAdd p (constant S_ .f32 0x00000000#32) reducesTo_S32x128x128x128_S32x128x128_d3 h_S_ : FVec Ideal S32x128x128 .f32)) (ix4 b h i (0 : Fin 1))
        = ∑ n : Fin 128, p (ix4 b h i n) := by
    refine (broadcastInDim_apply _ _ _ _ (ix3 b h i) fun a => ?_).trans ?_
    · match a with
      | ⟨0, _⟩ => rfl
      | ⟨1, _⟩ => rfl
      | ⟨2, _⟩ => rfl
    · refine (hostReduceAdd_apply p _ _ _ (ix3 b h i)).trans ((Ideal.hostReduceAdd_r4_a3 _ p _ (ix3 b h i)).trans ?_)
      refine (congrArg₂ (· + ·) zero_word (Finset.sum_congr rfl fun n _ => congrArg p ?_)).trans (zero_add _)
      funext a
      match a with
      | ⟨0, _⟩ => rfl
      | ⟨1, _⟩ => rfl
      | ⟨2, _⟩ => rfl
      | ⟨3, _⟩ => rfl
  refine (congrArg₂ (fun z w => z * a (ix4 b h i (0 : Fin 1)) + w) h1 h2).trans ?_
  rw [zero_mul, zero_add]

theorem num_apply (a : FVec Ideal S32x128x128x1 .f32) (p : FVec Ideal S32x128x128x128 .f32) (v : FVec Ideal S32x128x128x64 .f32)
    (b : Fin 32) (i h : Fin 128) (e : Fin 64) :
    num a p v (ix4 b i h e) = ∑ n : Fin 128, v (ix4 b n h e) * p (ix4 b h i n) := by
  have h1 : (broadcastInDim S32x128x128x64 ![] bcast_S_S32x128x128x64 (constant S_ .f32 0x00000000#32 : FVec Ideal S_ .f32)) (ix4 b i h e) = 0 :=
    (broadcastInDim_scalar_apply _ _ _).trans zero_word
  have h2 : (transpose S32x128x128x64 [0, 3, 1, 2]
      (Host.dotGeneral dot_S32x128x128x64_S32x128x128x128_S32x128x64x128_1_3_3_2_02_01 none v p : FVec Ideal S32x128x64x128 .f32)
      transposes_S32x128x64x128_S32x128x128x64_0_3_1_2) (ix4 b i h e) = ∑ n : Fin 128, v (ix4 b n h e) * p (ix4 b h i n) := by
    refine (transpose_apply _ _ _ _ (ix4 b h e i) fun a => ?_).trans (value_dot v p b h e i)
    match a with
    | ⟨0, _⟩ => rfl
    | ⟨1, _⟩ => rfl
    | ⟨2, _⟩ => rfl
    | ⟨3, _⟩ => rfl
  refine (congrArg₂ (fun z w => z * _ + w) h1 h2).trans ?_
  rw [zero_mul, zero_add]

theorem atn_apply (a : FVec Ideal S32x128x128x1 .f32) (p : FVec Ideal S32x128x128x128 .f32) (v : FVec Ideal S32x128x128x64 .f32)
    (b : Fin 32) (i h : Fin 128) (e : Fin 64) :
    atn a p v (ix3 b i (hcol h e)) = Ideal.div (∑ n : Fin 128, v (ix4 b n h e) * p (ix4 b h i n)) (∑ n : Fin 128, p (ix4 b h i n)) := by
  refine (shapeCast_apply _ _ _ (ix4 b i h e) ?_).trans ?_
  · rw [Shape.rowMajor_val_three, Shape.rowMajor_val_four]
    show ((b.val * 128 + i.val) * 128 + h.val) * 64 + e.val = (b.val * 128 + i.val) * 8192 + (e.val + 64 * h.val)
    omega
  refine congrArg₂ Ideal.div (num_apply a p v b i h e) ?_
  refine (broadcastInDim_apply _ _ _ _ (ix4 b i h (0 : Fin 1)) fun a => ?_).trans
    ((transpose_apply _ _ _ _ (ix4 b h i (0 : Fin 1)) fun a => ?_).trans (den_apply a p b h i))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-! ## The attention of finite activations and finite query and key weights -/

theorem sum_real {ι : Type*} [Fintype ι] (f g : ι → EReal) (hf : ∀ i, ∃ r : ℝ, f i = r) (hg : ∀ i, ∃ r : ℝ, g i = r) :
    ∃ r : ℝ, ∑ i, f i * g i = r := by
  choose f' hf' using hf
  choose g' hg' using hg
  exact ⟨∑ i, f' i * g' i, by rw [Cert.Ring.coe_sum]; exact Finset.sum_congr rfl fun i _ => by rw [hf', hg', EReal.coe_mul]⟩

/-- A column of the reference's attention: taking the largest score off changes no quotient, and the scale on the
    scores is a scale on the queries. -/
theorem atx_apply (x : FVec Ideal S32x128x512 .f32) (wq wk wv : FVec Ideal S512x8192 .f32)
    (hx : ∀ y, ∃ r : ℝ, x y = r) (hq : ∀ y, ∃ r : ℝ, wq y = r) (hk : ∀ y, ∃ r : ℝ, wk y = r)
    (b : Fin 32) (i h : Fin 128) (e : Fin 64) :
    atx x wq wk wv (ix3 b i (hcol h e))
      = Ideal.div
          (∑ n : Fin 128, Ideal.exp (∑ c : Fin 64, ((∑ k, x (ix3 b i k) * wq (ix2 k (hcol h c))) * Cert.Ring.scl) * (∑ k, x (ix3 b n k) * wk (ix2 k (hcol h c))))
            * ∑ k, x (ix3 b n k) * wv (ix2 k (hcol h e)))
          (∑ n : Fin 128, Ideal.exp (∑ c : Fin 64, ((∑ k, x (ix3 b i k) * wq (ix2 k (hcol h c))) * Cert.Ring.scl) * (∑ k, x (ix3 b n k) * wk (ix2 k (hcol h c))))) := by
  obtain ⟨t, ht⟩ := scl_real
  have hQ : ∀ (b : Fin 32) (i h : Fin 128) (c : Fin 64), ∃ r : ℝ, prj x wq (ix4 b i h c) = r := fun b i h c => by
    rw [prj_apply]; exact sum_real _ _ (fun _ => hx _) (fun _ => hq _)
  have hK : ∀ (b : Fin 32) (i h : Fin 128) (c : Fin 64), ∃ r : ℝ, prj x wk (ix4 b i h c) = r := fun b i h c => by
    rw [prj_apply]; exact sum_real _ _ (fun _ => hx _) (fun _ => hk _)
  have hS : ∀ y, ∃ r : ℝ, scr (prj x wq) (prj x wk) y = r := fun y => by
    obtain ⟨b, h, i, n, rfl⟩ : ∃ b h i n, y = ix4 b h i n := ⟨y 0, y 1, y 2, y 3, ValueIdx.eq_ix4 y⟩
    obtain ⟨r, hr⟩ := sum_real (fun c => prj x wq (ix4 b i h c)) (fun c => prj x wk (ix4 b n h c)) (fun _ => hQ _ _ _ _) (fun _ => hK _ _ _ _)
    exact ⟨r * t, by rw [scr_apply, hr, ht, EReal.coe_mul]⟩
  obtain ⟨M, hM⟩ := top_real _ hS b h i
  choose Q hQ' using hQ
  choose K hK' using hK
  have hs : ∀ n, scr (prj x wq) (prj x wk) (ix4 b h i n) = ((((∑ c, Q b i h c * K b n h c) * t : ℝ)) : EReal) := fun n => by
    rw [scr_apply, ht, EReal.coe_mul, Cert.Ring.coe_sum]
    refine congrArg (· * (t : EReal)) (Finset.sum_congr rfl fun c _ => ?_)
    rw [hQ', hK', EReal.coe_mul]
  have hd : ∀ n, (∑ c : Fin 64, ((∑ k, x (ix3 b i k) * wq (ix2 k (hcol h c))) * Cert.Ring.scl) * (∑ k, x (ix3 b n k) * wk (ix2 k (hcol h c))))
      = ((((∑ c, Q b i h c * K b n h c) * t : ℝ)) : EReal) := fun n => by
    refine (Finset.sum_congr rfl fun c _ => ?_).trans ((Cert.Ring.scale_dot t (Q b i h) (K b n h)).trans ?_)
    · rw [← hQ', ← hK', prj_apply, prj_apply, ht]
    · rw [EReal.coe_mul, Cert.Ring.coe_sum]
      exact congrArg (· * (t : EReal)) (Finset.sum_congr rfl fun c _ => (EReal.coe_mul _ _).symm)
  simp only [hd]
  unfold atx
  rw [atn_apply]
  refine Eq.trans ?_ ((Cert.Ring.head_shift (fun n => (∑ c, Q b i h c * K b n h c) * t) (fun n => prj x wv (ix4 b n h e)) M).trans ?_)
  · refine congrArg₂ Ideal.div (Finset.sum_congr rfl fun n _ => ?_) (Finset.sum_congr rfl fun n _ => ?_)
    · rw [wts_apply, hs, hM]
    · rw [wts_apply, hs, hM]
  · simp only [prj_apply]

end Cert.Ref

end
-- ==== Proof.Whole.lean ====
module

public import proofs.«01_k».proof.Proof.Ref

@[expose] public section

/-! The reference's result as a sum, over the sixteen groups of eight heads, of what a device that has one group adds. -/

noncomputable section

namespace Cert.Ref

open Cert.ReferenceIdeal Cert.ReferenceIdeal.Gen
open Idealize.ShloMosaic hiding ix1 ix2 ix3 ix4
open Idealize.ShloMosaic.ValueIdx
open scoped BigOperators

/-- Column `j` of group `d`, among all the columns. -/
def gcol (d : Fin 16) (j : Fin 512) : Fin 8192 := ⟨j.val + 512 * d.val, by omega⟩
/-- The head of that column, among all the heads. -/
def ghead (d : Fin 16) (j : Fin 512) : Fin 128 := ⟨8 * d.val + j.val / 64, by omega⟩

theorem gcol_col (d : Fin 16) (j : Fin 512) (e : Fin 64) : gcol d (Cert.Ring.col j e) = hcol (ghead d j) e :=
  Fin.ext (by show (e.val + 64 * (j.val / 64)) + 512 * d.val = e.val + 64 * (8 * d.val + j.val / 64); omega)
theorem gcol_head (d : Fin 16) (j : Fin 512) : gcol d j = hcol (ghead d j) ⟨j.val % 64, Nat.mod_lt _ (by decide)⟩ :=
  Fin.ext (by show j.val + 512 * d.val = j.val % 64 + 64 * (8 * d.val + j.val / 64); omega)

/-- A column of a group's attention is the reference's. -/
theorem atx_group (x : FVec Ideal S32x128x512 .f32) (wq wk wv : FVec Ideal S512x8192 .f32)
    (hx : ∀ y, ∃ r : ℝ, x y = r) (hq : ∀ y, ∃ r : ℝ, wq y = r) (hk : ∀ y, ∃ r : ℝ, wk y = r)
    (b : Fin 32) (i : Fin 128) (d : Fin 16) (j : Fin 512) :
    atx x wq wk wv (ix3 b i (gcol d j))
      = Cert.Ring.head (fun i c => (∑ k, x (ix3 b i k) * wq (ix2 k (gcol d c))) * Cert.Ring.scl)
          (fun i c => ∑ k, x (ix3 b i k) * wk (ix2 k (gcol d c))) (fun i c => ∑ k, x (ix3 b i k) * wv (ix2 k (gcol d c))) i j := by
  unfold Cert.Ring.head
  simp only [gcol_col]
  rw [gcol_head]
  exact atx_apply x wq wk wv hx hq hk b i (ghead d j) _

/-- The reference's result, of its arguments. -/
def res (x : FVec Ideal S32x128x512 .f32) (wq wk wv : FVec Ideal S512x8192 .f32) (wo : FVec Ideal S8192x512 .f32) : FVec Ideal S32x128x512 .f32 :=
  Host.dotGeneral dot_S32x128x8192_S8192x512_S32x128x512_2_0_01_1_n_n none (atx x wq wk wv) wo

theorem res_main (m : (ℓ : Loc nD τ sig) → Buf (Elt Ideal) ℓ) (c : Dev nD) :
    Cert.ReferenceIdeal.Value.res_main_v34 m c
      = res (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg2)) := res_eq m c

/-- The reference's result at an index. -/
theorem whole_apply (x : FVec Ideal S32x128x512 .f32) (wq wk wv : FVec Ideal S512x8192 .f32) (wo : FVec Ideal S8192x512 .f32)
    (hx : ∀ y, ∃ r : ℝ, x y = r) (hq : ∀ y, ∃ r : ℝ, wq y = r) (hk : ∀ y, ∃ r : ℝ, wk y = r)
    (b : Fin 32) (i : Fin 128) (c : Fin 512) :
    res x wq wk wv wo (ix3 b i c)
      = ∑ d : Fin 16, Cert.Ring.contr (fun r s => wq (ix2 r (gcol d s))) (fun r s => wk (ix2 r (gcol d s))) (fun r s => wv (ix2 r (gcol d s)))
          (fun r s => wo (ix2 (gcol d r) s)) (fun r k => x (ix3 b r k)) i c := by
  unfold res
  rw [last_dot]
  refine (Cert.Ring.sum_parts 16 512 (fun J : Fin 8192 => atx x wq wk wv (ix3 b i J) * wo (ix2 J c))).trans ?_
  refine Finset.sum_congr rfl fun d _ => ?_
  unfold Cert.Ring.contr
  refine Finset.sum_congr rfl fun j _ => ?_
  have hJ : (finProdFinEquiv (d, j) : Fin (16 * 512)) = gcol d j := Fin.ext rfl
  rw [hJ]
  exact congrArg (· * wo (ix2 (gcol d j) c)) (atx_group x wq wk wv hx hq hk b i d j)

end Cert.Ref

end
-- ==== Proof.Equal.lean ====
module

public import proofs.«01_k».proof.Proof.Sum
public import proofs.«01_k».proof.Proof.Whole
public import Idealize.ShloMosaic.Lib.ReduceAll
public import Idealize.ShloMosaic.Lib.Layout

@[expose] public section

/-! On arguments whose activations, query weights and key weights are finite, each device's result is its block of the
    reference's result. -/

noncomputable section

namespace Cert.Whole

open Idealize.ShloMosaic hiding ix0 ix1 ix2 ix3 ix4
open Idealize.ShloMosaic.ValueIdx
open Idealize.ShloMosaic.TcCoe
open Idealize.SL.Sem
open scoped BigOperators

/-! ## What the precondition says of a block -/

theorem inf_word : Ideal.ofBits .f32 0x7F800000#32 = ⊤ := by simp [Ideal.ofBits, Ideal.ieee]

/-- A number whose absolute value is below infinity is a real. -/
theorem real_of_lt (a : EReal) (h : Ideal.cmp .olt (max a (-a)) ⊤ = 1#1) : ∃ r : ℝ, a = r := by
  have hlt : max a (-a) < ⊤ := by
    by_contra hn
    simp [Ideal.cmp, hn] at h
  induction a using EReal.rec with
  | bot => simp at hlt
  | coe r => exact ⟨r, rfl⟩
  | top => simp at hlt

/-- An array that passes the test for finite entries has real entries. -/
theorem real_of_test {s t u : Shape} {axes : List (Fin s.rank)} [Subsingleton t.Idx] (v : FVec Ideal s .f32)
    (hb : (⟨0, ![]⟩ : Shape).BroadcastsInDim s ![]) (h : s.ReducesTo axes t) (hu : 0 < u.numel) (init : IVec u 1) (j : t.Idx)
    (e : Host.reduce IntOp.andi (cmpf .olt (Host.absf v) (broadcastInDim s ![] hb (constant ⟨0, ![]⟩ .f32 0x7F800000#32))) init h hu j = 1#1)
    (y : s.Idx) : ∃ r : ℝ, v y = r := by
  have hy := Host.reduce_andi_all _ init h hu j e y
  refine real_of_lt (v y) ?_
  rw [← inf_word]
  refine Eq.trans ?_ hy
  exact congrArg (Ideal.cmp .olt (max (v y) (-(v y)))) (broadcastInDim_scalar_apply hb (constant (F := Ideal) ⟨0, ![]⟩ .f32 0x7F800000#32) y).symm

section

variable [hP : Cert.Pre_finite_KernelIdeal.Facts]
variable (m : (ℓ : Loc Cert.KernelIdeal.nD Cert.KernelIdeal.τ Cert.KernelIdeal.sig) → Buf (Elt Ideal) ℓ)

/-- The precondition: on every device the blocks of the activations, of the query weights and of the key weights are real. -/
theorem pre_real (h : Cert.Pre_KernelIdeal_finite_KernelIdeal m) (c : Dev Cert.KernelIdeal.nD) :
    (∀ y : Cert.KernelIdeal.S2x128x512.Idx, ∃ r : ℝ, (m ((c.tc : Thread Cert.KernelIdeal.nD Cert.KernelIdeal.τ).loc Cert.KernelIdeal.main_arg0) y : EReal) = (r : EReal))
    ∧ (∀ y : Cert.KernelIdeal.S512x512.Idx, ∃ r : ℝ, (m ((c.tc : Thread Cert.KernelIdeal.nD Cert.KernelIdeal.τ).loc Cert.KernelIdeal.main_arg1) y : EReal) = (r : EReal))
    ∧ (∀ y : Cert.KernelIdeal.S512x512.Idx, ∃ r : ℝ, (m ((c.tc : Thread Cert.KernelIdeal.nD Cert.KernelIdeal.τ).loc Cert.KernelIdeal.main_arg3) y : EReal) = (r : EReal)) := by
  haveI : Subsingleton (⟨0, ![]⟩ : Shape).Idx := ⟨fun a b => funext fun k => k.elim0⟩
  have e := congrFun (h c) ix0
  unfold Cert.Pre_finite_KernelIdeal.fn at e
  obtain ⟨e01, e3⟩ := IntOp.andi_eq_one.1 e
  obtain ⟨e0', e1⟩ := IntOp.andi_eq_one.1 e01
  obtain ⟨-, e0⟩ := IntOp.andi_eq_one.1 e0'
  exact ⟨real_of_test _ _ _ _ _ ix0 e0, real_of_test _ _ _ _ _ ix0 e1, real_of_test _ _ _ _ _ ix0 e3⟩

end

/-! ## Where the blocks lie -/

/-- Every row of the activations lies in some device's block. -/
theorem rows_cover (b : Fin 32) : ∃ (c : Fin 16) (d : Bool), b.val = c.val * 2 + (Cert.Ring.bi d).val := by
  rcases Nat.mod_two_eq_zero_or_one b.val with h | h
  · exact ⟨⟨b.val / 2, by omega⟩, false, by show b.val = b.val / 2 * 2 + 0; omega⟩
  · exact ⟨⟨b.val / 2, by omega⟩, true, by show b.val = b.val / 2 * 2 + 1; omega⟩

theorem cols_cover (j : Fin 8192) : ∃ (c : Fin 16) (s : Fin 512), j = Cert.Ref.gcol c s :=
  ⟨⟨j.val / 512, by omega⟩, ⟨j.val % 512, Nat.mod_lt _ (by decide)⟩, Fin.ext (by show j.val = j.val % 512 + 512 * (j.val / 512); omega)⟩

/-- Row `d` of device `c`'s two, among all the rows. -/
def grow (c : Fin 16) (d : Bool) : Fin 32 := ⟨c.val * 2 + (Cert.Ring.bi d).val, by have := (Cert.Ring.bi d).isLt; omega⟩

theorem block_rows (v : (⟨3, ![32, 128, 512]⟩ : Shape).Idx → EReal) (c : Fin 16) (d : Bool) (i : Fin 128) (k : Fin 512) :
    Layout.block ⟨3, ![2, 128, 512]⟩ ⟨3, ![32, 128, 512]⟩ 0 16 c v (by decide) (ix3 (Cert.Ring.bi d) i k) = v (ix3 (grow c d) i k) := by
  refine congrArg v (funext fun a => Fin.ext ?_)
  match a with
  | ⟨0, _⟩ => rfl
  | ⟨1, _⟩ => rfl
  | ⟨2, _⟩ => rfl

theorem block_cols (v : (⟨2, ![512, 8192]⟩ : Shape).Idx → EReal) (c : Fin 16) (r s : Fin 512) :
    Layout.block ⟨2, ![512, 512]⟩ ⟨2, ![512, 8192]⟩ 1 16 c v (by decide) (ix2 r s) = v (ix2 r (Cert.Ref.gcol c s)) := by
  refine congrArg v (funext fun a => Fin.ext ?_)
  match a with
  | ⟨0, _⟩ => rfl
  | ⟨1, _⟩ => show c.val * 512 + s.val = s.val + 512 * c.val; omega

theorem block_out (v : (⟨2, ![8192, 512]⟩ : Shape).Idx → EReal) (c : Fin 16) (r s : Fin 512) :
    Layout.block ⟨2, ![512, 512]⟩ ⟨2, ![8192, 512]⟩ 0 16 c v (by decide) (ix2 r s) = v (ix2 (Cert.Ref.gcol c r) s) := by
  refine congrArg v (funext fun a => Fin.ext ?_)
  match a with
  | ⟨0, _⟩ => show c.val * 512 + r.val = r.val + 512 * c.val; omega
  | ⟨1, _⟩ => rfl

/-- An array cut into column blocks has real entries when its blocks have. -/
theorem cols_real (v : (⟨2, ![512, 8192]⟩ : Shape).Idx → EReal)
    (h : ∀ (c : Fin 16) (y : (⟨2, ![512, 512]⟩ : Shape).Idx), ∃ r : ℝ, Layout.block ⟨2, ![512, 512]⟩ ⟨2, ![512, 8192]⟩ 1 16 c v (by decide) y = r)
    (y : (⟨2, ![512, 8192]⟩ : Shape).Idx) : ∃ r : ℝ, v y = r := by
  obtain ⟨k, j, rfl⟩ : ∃ (k : Fin 512) (j : Fin 8192), y = ix2 k j := ⟨y 0, y 1, ValueIdx.eq_ix2 y⟩
  obtain ⟨c, s, rfl⟩ := cols_cover j
  obtain ⟨r, hr⟩ := h c (ix2 k s)
  exact ⟨r, (block_cols v c k s).symm.trans hr⟩

/-- So has one cut into blocks of rows. -/
theorem rows_real (v : (⟨3, ![32, 128, 512]⟩ : Shape).Idx → EReal)
    (h : ∀ (c : Fin 16) (y : (⟨3, ![2, 128, 512]⟩ : Shape).Idx), ∃ r : ℝ, Layout.block ⟨3, ![2, 128, 512]⟩ ⟨3, ![32, 128, 512]⟩ 0 16 c v (by decide) y = r)
    (y : (⟨3, ![32, 128, 512]⟩ : Shape).Idx) : ∃ r : ℝ, v y = r := by
  obtain ⟨b, i, k, rfl⟩ : ∃ (b : Fin 32) (i : Fin 128) (k : Fin 512), y = ix3 b i k := ⟨y 0, y 1, y 2, ValueIdx.eq_ix3 y⟩
  obtain ⟨c, d, hb⟩ := rows_cover b
  obtain rfl : b = grow c d := Fin.ext hb
  obtain ⟨r, hr⟩ := h c (ix3 (Cert.Ring.bi d) i k)
  exact ⟨r, (block_rows v c d i k).symm.trans hr⟩

/-! ## The claim -/

section

variable [hP : Cert.Pre_finite_KernelIdeal.Facts]

/-- Device by device, the arguments are the blocks of the reference's arguments. -/
def Agree (m : (ℓ : Loc Cert.KernelIdeal.nD Cert.KernelIdeal.τ Cert.KernelIdeal.sig) → Buf (Elt Ideal) ℓ)
    (x : (⟨3, ![32, 128, 512]⟩ : Shape).Idx → EReal) (wq wk wv : (⟨2, ![512, 8192]⟩ : Shape).Idx → EReal)
    (wo : (⟨2, ![8192, 512]⟩ : Shape).Idx → EReal) : Prop :=
  ∀ c : Dev Cert.KernelIdeal.nD,
    m ((c.tc : Thread Cert.KernelIdeal.nD Cert.KernelIdeal.τ).loc Cert.KernelIdeal.main_arg0) = Layout.block ⟨3, ![2, 128, 512]⟩ ⟨3, ![32, 128, 512]⟩ 0 16 c x
    ∧ m ((c.tc : Thread Cert.KernelIdeal.nD Cert.KernelIdeal.τ).loc Cert.KernelIdeal.main_arg1) = Layout.block ⟨2, ![512, 512]⟩ ⟨2, ![512, 8192]⟩ 1 16 c wq
    ∧ m ((c.tc : Thread Cert.KernelIdeal.nD Cert.KernelIdeal.τ).loc Cert.KernelIdeal.main_arg2) = Layout.block ⟨2, ![512, 512]⟩ ⟨2, ![8192, 512]⟩ 0 16 c wo
    ∧ m ((c.tc : Thread Cert.KernelIdeal.nD Cert.KernelIdeal.τ).loc Cert.KernelIdeal.main_arg3) = Layout.block ⟨2, ![512, 512]⟩ ⟨2, ![512, 8192]⟩ 1 16 c wk
    ∧ m ((c.tc : Thread Cert.KernelIdeal.nD Cert.KernelIdeal.τ).loc Cert.KernelIdeal.main_arg4) = Layout.block ⟨2, ![512, 512]⟩ ⟨2, ![512, 8192]⟩ 1 16 c wv

variable (m : (ℓ : Loc Cert.KernelIdeal.nD Cert.KernelIdeal.τ Cert.KernelIdeal.sig) → Buf (Elt Ideal) ℓ) (ρ : Dev Cert.KernelIdeal.nD → PrngReg)
variable (x : (⟨3, ![32, 128, 512]⟩ : Shape).Idx → EReal) (wq wk wv : (⟨2, ![512, 8192]⟩ : Shape).Idx → EReal)
variable (wo : (⟨2, ![8192, 512]⟩ : Shape).Idx → EReal)

/-- What a device adds for a row of the activations, in terms of the whole arrays. -/
theorem adds_whole (h : Agree m x wq wk wv wo) (e c : Dev Cert.KernelIdeal.nD) (d : Bool) (i : Fin 128) (s : Fin 512) :
    Cert.Ring.adds m ρ e (Cert.Ring.xr m ρ d c) i s
      = Cert.Ring.contr (fun r s => wq (ix2 r (Cert.Ref.gcol e s))) (fun r s => wk (ix2 r (Cert.Ref.gcol e s)))
          (fun r s => wv (ix2 r (Cert.Ref.gcol e s))) (fun r s => wo (ix2 (Cert.Ref.gcol e r) s)) (fun r k => x (ix3 (grow c d) r k)) i s := by
  obtain ⟨-, h1, h2, h3, h4⟩ := h e
  have h0 := (h c).1
  have a0 : Cert.Ring.xr m ρ d c = fun r k => x (ix3 (grow c d) r k) := funext₂ fun r k => by
    unfold Cert.Ring.xr
    rw [Cert.Ring.xin_eq, h0]
    exact block_rows x c d r k
  have a1 : (fun r s => Cert.Ring.wq m ρ e (ix2 r s)) = fun r s => wq (ix2 r (Cert.Ref.gcol e s)) := funext₂ fun r s => by
    rw [Cert.Ring.wq_eq, h1]
    exact block_cols wq e r s
  have a2 : (fun r s => Cert.Ring.wo m ρ e (ix2 r s)) = fun r s => wo (ix2 (Cert.Ref.gcol e r) s) := funext₂ fun r s => by
    rw [Cert.Ring.wo_eq, h2]
    exact block_out wo e r s
  have a3 : (fun r s => Cert.Ring.wk m ρ e (ix2 r s)) = fun r s => wk (ix2 r (Cert.Ref.gcol e s)) := funext₂ fun r s => by
    rw [Cert.Ring.wk_eq, h3]
    exact block_cols wk e r s
  have a4 : (fun r s => Cert.Ring.wv m ρ e (ix2 r s)) = fun r s => wv (ix2 r (Cert.Ref.gcol e s)) := funext₂ fun r s => by
    rw [Cert.Ring.wv_eq, h4]
    exact block_cols wv e r s
  unfold Cert.Ring.adds
  rw [a0, a1, a2, a3, a4]

/-- Each device's result is its block of the reference's. -/
theorem out_block (hpre : Cert.Pre_KernelIdeal_finite_KernelIdeal m) (h : Agree m x wq wk wv wo) (c : Dev Cert.KernelIdeal.nD) :
    Cert.Ring.outAt m ρ c
      = Layout.block ⟨3, ![2, 128, 512]⟩ ⟨3, ![32, 128, 512]⟩ 0 16 c
          (Cert.Ref.res x wq wk wv wo) := by
  have hx : ∀ y, ∃ r : ℝ, x y = r := rows_real x fun c y => by
    rw [← (h c).1]; exact (pre_real m hpre c).1 y
  have hq : ∀ y, ∃ r : ℝ, wq y = r := cols_real wq fun c y => by
    rw [← (h c).2.1]; exact (pre_real m hpre c).2.1 y
  have hk : ∀ y, ∃ r : ℝ, wk y = r := cols_real wk fun c y => by
    rw [← (h c).2.2.2.1]; exact (pre_real m hpre c).2.2 y
  funext y
  obtain ⟨d, i, s, rfl⟩ : ∃ (d : Bool) (i : Fin 128) (s : Fin 512), y = ix3 (Cert.Ring.bi d) i s := by
    have hb : ∀ b : Fin 2, ∃ d : Bool, b = Cert.Ring.bi d := by decide
    obtain ⟨d, hd⟩ := hb (y 0)
    exact ⟨d, y 1, y 2, by rw [← hd]; exact ValueIdx.eq_ix3 y⟩
  refine (Cert.Ring.outAt_apply m ρ d c i s).trans ?_
  refine Eq.trans ?_ (block_rows _ c d i s).symm
  refine Eq.trans ?_ (Cert.Ref.whole_apply x wq wk wv wo hx hq hk (grow c d) i s).symm
  exact Finset.sum_congr rfl fun e _ => adds_whole m ρ x wq wk wv wo h e c d i s

/-- Each device's results are its block of the reference's, and both programs leave their arguments as they were. -/
theorem equal : Cert.algebraic_KernelIdeal_ReferenceIdeal_pre_finite_KernelIdeal := by
  intro m g m' g' hpre hag
  refine ⟨Cert.ReferenceIdeal.Value.res_main_v34 m' 0, ?_, ?_⟩
  · refine (θ_run Cert.KernelIdeal.defs _ _).mono (fun r hr c => ?_) (Cert.Ring.run_all (F := Ideal) m g)
    refine ⟨(hr.1 c).1.trans ((Cert.Ring.finalA_out m g c).trans ?_), (hr.1 c).2⟩
    rw [Cert.Ref.res_main]
    exact out_block m g _ _ _ _ _ hpre hag c
  · exact (θ_run Cert.ReferenceIdeal.defs _ _).mono (fun r hr => hr 0) (Cert.ReferenceIdeal.Value.run (F := Ideal) m' g')

end

end Cert.Whole

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Equal

@[expose] public section

noncomputable section

/-- Everything that is claimed: the three frames, that the ideal program is the kernel, and that on finite activations,
    query weights and key weights each device's result is its block of the reference's. -/
theorem Cert.Proof.claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    Cert.Ring.frame_kernel, Cert.Ring.frame_ideal, fun m ρ _ => Cert.Ring.frame_ideal m ρ True.intro,
    Cert.Ring.frame_reference, fun m ρ _ => Cert.Ring.frame_reference m ρ True.intro, trivial, Cert.Whole.equal⟩

end
